-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_untied_pre_in_range [hKernelIdeal : Cert.KernelIdeal.Facts] [hReferenceIdeal : Cert.ReferenceIdeal.Facts] [hPre_in_range : Cert.Pre_in_range.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_values_9)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![1024]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_values_9) i = v0 c i)
          ∧ (∀ i : (⟨2, ![1024, 2]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v61) i = v1 c i)
          ∧ (∀ i : (⟨1, ![1024]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v95) i = v2 c i)
          ∧ (∀ i : (⟨2, ![1024, 2]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v94) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![1024]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_values) i = v0 c i)
          ∧ (∀ i : (⟨2, ![1024, 2]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v86) i = v1 c i)
          ∧ (∀ i : (⟨1, ![1024]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v81) i = v2 c i)
          ∧ (∀ i : (⟨2, ![1024, 2]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v91) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hOn_untied : Cert.On_untied.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_on_untied_pre_in_range (hKernelIdeal := hKernelIdeal) (hReferenceIdeal := hReferenceIdeal) (hPre_in_range := hPre_in_range) (hOn_untied := hOn_untied)
-- ==== On_untied.lean ====
abbrev S16384x256 : Shape := ⟨2, ![16384, 256]⟩
abbrev S2x262144 : Shape := ⟨2, ![2, 262144]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S16384 : Shape := ⟨1, ![16384]⟩
abbrev S16384x1 : Shape := ⟨2, ![16384, 1]⟩
abbrev S1x16384 : Shape := ⟨2, ![1, 16384]⟩
abbrev S2048x16384 : Shape := ⟨2, ![2048, 16384]⟩
abbrev S256x16384 : Shape := ⟨2, ![256, 16384]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S2048x2 : Shape := ⟨2, ![2048, 2]⟩
abbrev S33554432 : Shape := ⟨1, ![33554432]⟩
abbrev S1025 : Shape := ⟨1, ![1025]⟩
abbrev S1024 : Shape := ⟨1, ![1024]⟩
abbrev S1 : Shape := ⟨1, ![1]⟩
abbrev S1024x1 : Shape := ⟨2, ![1024, 1]⟩
abbrev S1024x2 : Shape := ⟨2, ![1024, 2]⟩

class Facts : Prop where
  slices_S16384x256_S2048x256_0_0 : S16384x256.Slices ![0, 0] S2048x256
  reducesTo_S2048x256_S2048_d1 : S2048x256.ReducesTo [1] S2048
  h_S_ : 0 < S_.numel
  bcast_S2048_S2048x1_0 : S2048.BroadcastsInDim S2048x1 (![0] : Fin 1 → Fin S2048x1.rank)
  reducesTo_S16384x256_S16384_d1 : S16384x256.ReducesTo [1] S16384
  bcast_S16384_S16384x1_0 : S16384.BroadcastsInDim S16384x1 (![0] : Fin 1 → Fin S16384x1.rank)
  transposes_S16384x1_S1x16384_1_0 : S16384x1.Transposes [1, 0] S1x16384
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  transposes_S16384x256_S256x16384_1_0 : S16384x256.Transposes [1, 0] S256x16384
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S2048 : S_.BroadcastsInDim S2048 (![] : Fin 0 → Fin S2048.rank)
  concatenates_S2048x1_S2048x1_S2048x2_d1 : Shape.Concatenates [S2048x1, S2048x1] S2048x2 1
  shapeCasts_S2048x16384_S33554432 : S2048x16384.ShapeCasts S33554432
  sliceFits_S33554432_S1025 : S33554432.Slices (fun _ => 0) S1025
  slices_S1025_S1024_0 : S1025.Slices ![0] S1024
  slices_S1025_S1_1024 : S1025.Slices ![1024] S1
  shapeCasts_S1_S_ : S1.ShapeCasts S_
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x2_0_1 : S1024x1.BroadcastsInDim S1024x2 (![0, 1] : Fin 2 → Fin S1024x2.rank)
  dot_S2048x256_S256x16384_S2048x16384_1_0_0_1_n_n_wf : DotDims.WF S2048x256 S256x16384 S2048x16384 [1] [0] [0] [1] [] []
  scatter_S2048x16384_S262144x2_S262144_n_01_01_1_wf : ScatterDims.WF S2048x16384 S262144x2 S262144 [] [0, 1] [0, 1] 1
  scatter_S2048x16384_S2048x2_S2048_n_01_01_1_wf : ScatterDims.WF S2048x16384 S2048x2 S2048 [] [0, 1] [0, 1] 1

variable [Facts]

def dot_S2048x256_S256x16384_S2048x16384_1_0_0_1_n_n : DotDims S2048x256 S256x16384 S2048x16384 where
  lhsContracting := [1]
  rhsContracting := [0]
  lhsNonContracting := [0]
  rhsNonContracting := [1]
  lhsBatch := []
  rhsBatch := []
  wf := dot_S2048x256_S256x16384_S2048x16384_1_0_0_1_n_n_wf
def scatter_S2048x16384_S262144x2_S262144_n_01_01_1 : ScatterDims S2048x16384 S262144x2 S262144 where
  updateWindowDims := []
  insertedWindowDims := [0, 1]
  scatterDimsToOperandDims := [0, 1]
  indexVectorDim := 1
  wf := scatter_S2048x16384_S262144x2_S262144_n_01_01_1_wf
def scatter_S2048x16384_S2048x2_S2048_n_01_01_1 : ScatterDims S2048x16384 S2048x2 S2048 where
  updateWindowDims := []
  insertedWindowDims := [0, 1]
  scatterDimsToOperandDims := [0, 1]
  indexVectorDim := 1
  wf := scatter_S2048x16384_S2048x2_S2048_n_01_01_1_wf
def fn_norm {F : FTy → Type} [FloatOps F] (arg0 : FVec F S2048x256 .f32) : FVec F S2048x1 .f32 :=
  let v0 : FVec F S2048x256 .f32 := mulf arg0 arg0
  let cst : FVec F S_ .f32 := constant S_ .f32 0x00000000#32
  let v1 : FVec F S2048 .f32 := (fun x v => Host.reduceAdd x v reducesTo_S2048x256_S2048_d1 h_S_) v0 cst
  let v2 : FVec F S2048x1 .f32 := broadcastInDim S2048x1 ![0] bcast_S2048_S2048x1_0 v1
  let v3 : FVec F S2048x1 .f32 := Host.sqrt v2
  v3

def fn_norm_0 {F : FTy → Type} [FloatOps F] (arg0 : FVec F S16384x256 .f32) : FVec F S16384x1 .f32 :=
  let v0 : FVec F S16384x256 .f32 := mulf arg0 arg0
  let cst : FVec F S_ .f32 := constant S_ .f32 0x00000000#32
  let v1 : FVec F S16384 .f32 := (fun x v => Host.reduceAdd x v reducesTo_S16384x256_S16384_d1 h_S_) v0 cst
  let v2 : FVec F S16384x1 .f32 := broadcastInDim S16384x1 ![0] bcast_S16384_S16384x1_0 v1
  let v3 : FVec F S16384x1 .f32 := Host.sqrt v2
  v3

def fn_where {F : FTy → Type} [FloatOps F] (arg0 : IVec S262144 1) (arg1 : IVec S262144 32) (arg2 : IVec S_ 32) : IVec S262144 32 :=
  let v0 : IVec S_ 32 := id arg2
  let v1 : IVec S262144 32 := broadcastInDim S262144 ![] bcast_S_S262144 v0
  let v2 : IVec S262144 32 := select arg0 arg1 v1
  v2

def fn_part5 {F : FTy → Type} [FloatOps F] (main_v90 : IVec S1024 1) (main_v91 : IVec S1024 1) (main_v93 : IVec S1024x2 1) : IVec S1024 1 × IVec S1024x2 1 × IVec S1024 1 × IVec S1024x2 1 :=
  let main_v94 : IVec S1024x1 1 := broadcastInDim S1024x1 ![0] bcast_S1024_S1024x1_0 main_v90
  let main_v95 : IVec S1024x2 1 := broadcastInDim S1024x2 ![0, 1] bcast_S1024x1_S1024x2_0_1 main_v94
  (main_v91, main_v93, main_v91, main_v95)

def fn_part4 {F : FTy → Type} [FloatOps F] (main_v28 : FVec F S2048x16384 .f32) (main_v73 : FVec F S33554432 .f32) (main_v75 : FVec F S2048x16384 .f32) : IVec S1024 1 × IVec S1024x2 1 × IVec S1024 1 × IVec S1024x2 1 :=
  let main_cst_18 : FVec F S_ .f32 := constant S_ .f32 0x42C60000#32
  let main_v76 : FVec F S2048x16384 .f32 := broadcastInDim S2048x16384 ![] bcast_S_S2048x16384 main_cst_18
  let main_v77 : FVec F S2048x16384 .f32 := mulf main_v75 main_v76
  let main_v78 : FVec F S2048x16384 .f32 := addf main_v28 main_v77
  let main_v79 : FVec F S33554432 .f32 := shapeCast S33554432 main_v78 shapeCasts_S2048x16384_S33554432
  let main_values : FVec F S1025 .f32 := (fun x => (Host.topK S1025 0 (FloatOps.cmpfTotal .gt) x sliceFits_S33554432_S1025).1) main_v73
  let main_indices : IVec S1025 32 := (fun x => (Host.topK S1025 0 (FloatOps.cmpfTotal .gt) x sliceFits_S33554432_S1025).2) main_v73
  let main_v80 : FVec F S33554432 .f32 := Host.negf main_v79
  let main_values_19 : FVec F S1025 .f32 := (fun x => (Host.topK S1025 0 (FloatOps.cmpfTotal .gt) x sliceFits_S33554432_S1025).1) main_v80
  let main_indices_20 : IVec S1025 32 := (fun x => (Host.topK S1025 0 (FloatOps.cmpfTotal .gt) x sliceFits_S33554432_S1025).2) main_v80
  let main_v81 : FVec F S1024 .f32 := (extractStridedSlice S1024 ![0] · slices_S1025_S1024_0) main_values
  let main_v82 : FVec F S1 .f32 := (extractStridedSlice S1 ![1024] · slices_S1025_S1_1024) main_values
  let main_v83 : FVec F S_ .f32 := shapeCast S_ main_v82 shapeCasts_S1_S_
  let main_v84 : FVec F S1024 .f32 := broadcastInDim S1024 ![] bcast_S_S1024 main_v83
  let main_v85 : IVec S1024 1 := cmpf .ogt main_v81 main_v84
  let main_v86 : FVec F S1024 .f32 := (extractStridedSlice S1024 ![0] · slices_S1025_S1024_0) main_values_19
  let main_v87 : FVec F S1 .f32 := (extractStridedSlice S1 ![1024] · slices_S1025_S1_1024) main_values_19
  let main_v88 : FVec F S_ .f32 := shapeCast S_ main_v87 shapeCasts_S1_S_
  let main_v89 : FVec F S1024 .f32 := broadcastInDim S1024 ![] bcast_S_S1024 main_v88
  let main_v90 : IVec S1024 1 := cmpf .ogt main_v86 main_v89
  let main_c_21 : IVec S_ 1 := constantI S_ 1 1#1
  let main_v91 : IVec S1024 1 := broadcastInDim S1024 ![] bcast_S_S1024 main_c_21
  let main_v92 : IVec S1024x1 1 := broadcastInDim S1024x1 ![0] bcast_S1024_S1024x1_0 main_v85
  let main_v93 : IVec S1024x2 1 := broadcastInDim S1024x2 ![0, 1] bcast_S1024x1_S1024x2_0_1 main_v92
  fn_part5 (F := F) main_v90 main_v91 main_v93

def fn_part3 {F : FTy → Type} [FloatOps F] (main_v28 : FVec F S2048x16384 .f32) (main_v51 : FVec F S2048x16384 .f32) (main_v52 : IVec S2048 32) (main_v53 : FVec F S2048x16384 .f32) (main_v55 : IVec S2048 1) (main_v56 : IVec S2048 32) : IVec S1024 1 × IVec S1024x2 1 × IVec S1024 1 × IVec S1024x2 1 :=
  let main_v57 : IVec S2048 32 := addi main_v52 main_v56
  let main_v58 : IVec S2048 32 := select main_v55 main_v57 main_v52
  let main_c_13 : IVec S_ 32 := constantI S_ 32 0#32
  let main_v59 : IVec S2048 32 := broadcastInDim S2048 ![] bcast_S_S2048 main_c_13
  let main_v60 : IVec S2048 1 := cmpi .slt main_v52 main_v59
  let main_c_14 : IVec S_ 32 := constantI S_ 32 16384#32
  let main_v61 : IVec S2048 32 := broadcastInDim S2048 ![] bcast_S_S2048 main_c_14
  let main_v62 : IVec S2048 32 := addi main_v52 main_v61
  let main_v63 : IVec S2048 32 := select main_v60 main_v62 main_v52
  let main_v64 : IVec S2048x1 32 := broadcastInDim S2048x1 ![0] bcast_S2048_S2048x1_0 main_v58
  let main_v65 : IVec S2048x1 32 := broadcastInDim S2048x1 ![0] bcast_S2048_S2048x1_0 main_v63
  let main_v66 : IVec S2048x2 32 := (fun a b => concatenate S2048x2 1 [⟨S2048x1, a⟩, ⟨S2048x1, b⟩] concatenates_S2048x1_S2048x1_S2048x2_d1) main_v64 main_v65
  let main_cst_15 : FVec F S_ .f32 := constant S_ .f32 0x3F800000#32
  let main_v67 : FVec F S2048 .f32 := broadcastInDim S2048 ![] bcast_S_S2048 main_cst_15
  let main_v68 : FVec F S2048x16384 .f32 := (fun x i u => Host.scatter scatter_S2048x16384_S2048x2_S2048_n_01_01_1 (fun _ b => b) x i u) main_v53 main_v66 main_v67
  let main_v69 : FVec F S2048x16384 .f32 := addf main_v51 main_v68
  let main_cst_16 : FVec F S_ .f32 := constant S_ .f32 0xC2C60000#32
  let main_v70 : FVec F S2048x16384 .f32 := broadcastInDim S2048x16384 ![] bcast_S_S2048x16384 main_cst_16
  let main_v71 : FVec F S2048x16384 .f32 := mulf main_v69 main_v70
  let main_v72 : FVec F S2048x16384 .f32 := addf main_v28 main_v71
  let main_v73 : FVec F S33554432 .f32 := shapeCast S33554432 main_v72 shapeCasts_S2048x16384_S33554432
  let main_cst_17 : FVec F S_ .f32 := constant S_ .f32 0x3F800000#32
  let main_v74 : FVec F S2048x16384 .f32 := broadcastInDim S2048x16384 ![] bcast_S_S2048x16384 main_cst_17
  let main_v75 : FVec F S2048x16384 .f32 := subf main_v74 main_v51
  fn_part4 (F := F) main_v28 main_v73 main_v75

def fn_part2 {F : FTy → Type} [FloatOps F] (main_v28 : FVec F S2048x16384 .f32) (main_v32 : IVec S262144 32) (main_v35 : IVec S262144 32) (main_v36 : FVec F S2048x16384 .f32) (main_v38 : IVec S262144 1) (main_c_6 : IVec S_ 32) : IVec S1024 1 × IVec S1024x2 1 × IVec S1024 1 × IVec S1024x2 1 :=
  let main_v39 : IVec S262144 32 := broadcastInDim S262144 ![] bcast_S_S262144 main_c_6
  let main_v40 : IVec S262144 32 := addi main_v35 main_v39
  let main_v41 : IVec S262144 32 := select main_v38 main_v40 main_v35
  let main_c_7 : IVec S_ 32 := constantI S_ 32 0#32
  let main_v42 : IVec S262144 32 := broadcastInDim S262144 ![] bcast_S_S262144 main_c_7
  let main_v43 : IVec S262144 1 := cmpi .slt main_v32 main_v42
  let main_c_8 : IVec S_ 32 := constantI S_ 32 16384#32
  let main_v44 : IVec S262144 32 := broadcastInDim S262144 ![] bcast_S_S262144 main_c_8
  let main_v45 : IVec S262144 32 := addi main_v32 main_v44
  let main_v46 : IVec S262144 32 := select main_v43 main_v45 main_v32
  let main_v47 : IVec S262144x1 32 := broadcastInDim S262144x1 ![0] bcast_S262144_S262144x1_0 main_v41
  let main_v48 : IVec S262144x1 32 := broadcastInDim S262144x1 ![0] bcast_S262144_S262144x1_0 main_v46
  let main_v49 : IVec S262144x2 32 := (fun a b => concatenate S262144x2 1 [⟨S262144x1, a⟩, ⟨S262144x1, b⟩] concatenates_S262144x1_S262144x1_S262144x2_d1) main_v47 main_v48
  let main_cst_9 : FVec F S_ .f32 := constant S_ .f32 0x3F800000#32
  let main_v50 : FVec F S262144 .f32 := broadcastInDim S262144 ![] bcast_S_S262144 main_cst_9
  let main_v51 : FVec F S2048x16384 .f32 := (fun x i u => Host.scatter scatter_S2048x16384_S262144x2_S262144_n_01_01_1 (fun _ b => b) x i u) main_v36 main_v49 main_v50
  let main_v52 : IVec S2048 32 := iotaInDim S2048 32 0
  let main_cst_10 : FVec F S_ .f32 := constant S_ .f32 0x00000000#32
  let main_v53 : FVec F S2048x16384 .f32 := broadcastInDim S2048x16384 ![] bcast_S_S2048x16384 main_cst_10
  let main_c_11 : IVec S_ 32 := constantI S_ 32 0#32
  let main_v54 : IVec S2048 32 := broadcastInDim S2048 ![] bcast_S_S2048 main_c_11
  let main_v55 : IVec S2048 1 := cmpi .slt main_v52 main_v54
  let main_c_12 : IVec S_ 32 := constantI S_ 32 2048#32
  let main_v56 : IVec S2048 32 := broadcastInDim S2048 ![] bcast_S_S2048 main_c_12
  fn_part3 (F := F) main_v28 main_v51 main_v52 main_v53 main_v55 main_v56

def fn_part1 {F : FTy → Type} [FloatOps F] (main_arg2 : IVec S2x262144 32) (main_v11 : FVec F S2048x16384 .f32) (main_v12 : FVec F S2048x256 .f32) (main_v20 : FVec F S2048x16384 .f32) (main_v21 : FVec F S256x16384 .f32) : IVec S1024 1 × IVec S1024x2 1 × IVec S1024 1 × IVec S1024x2 1 :=
  let main_v22 : FVec F S2048x16384 .f32 := (fun l r => Host.dotGeneral dot_S2048x256_S256x16384_S2048x16384_1_0_0_1_n_n none l r) main_v12 main_v21
  let main_v23 : FVec F S2048x16384 .f32 := Host.divf main_v22 main_v20
  let main_cst_1 : FVec F S_ .f32 := constant S_ .f32 0x3F000000#32
  let main_v24 : FVec F S2048x16384 .f32 := broadcastInDim S2048x16384 ![] bcast_S_S2048x16384 main_cst_1
  let main_v25 : FVec F S2048x16384 .f32 := mulf main_v24 main_v11
  let main_cst_2 : FVec F S_ .f32 := constant S_ .f32 0x3F000000#32
  let main_v26 : FVec F S2048x16384 .f32 := broadcastInDim S2048x16384 ![] bcast_S_S2048x16384 main_cst_2
  let main_v27 : FVec F S2048x16384 .f32 := mulf main_v26 main_v23
  let main_v28 : FVec F S2048x16384 .f32 := addf main_v25 main_v27
  let main_v29 : IVec S1x262144 32 := (extractStridedSlice S1x262144 ![0, 0] · slices_S2x262144_S1x262144_0_0) main_arg2
  let main_v30 : IVec S262144 32 := shapeCast S262144 main_v29 shapeCasts_S1x262144_S262144
  let main_v31 : IVec S1x262144 32 := (extractStridedSlice S1x262144 ![1, 0] · slices_S2x262144_S1x262144_1_0) main_arg2
  let main_v32 : IVec S262144 32 := shapeCast S262144 main_v31 shapeCasts_S1x262144_S262144
  let main_c : IVec S_ 32 := constantI S_ 32 2048#32
  let main_v33 : IVec S262144 32 := broadcastInDim S262144 ![] bcast_S_S262144 main_c
  let main_v34 : IVec S262144 1 := cmpi .slt main_v30 main_v33
  let main_c_3 : IVec S_ 32 := constantI S_ 32 2048#32
  let main_v35 : IVec S262144 32 := fn_where (F := F) main_v34 main_v30 main_c_3
  let main_cst_4 : FVec F S_ .f32 := constant S_ .f32 0x00000000#32
  let main_v36 : FVec F S2048x16384 .f32 := broadcastInDim S2048x16384 ![] bcast_S_S2048x16384 main_cst_4
  let main_c_5 : IVec S_ 32 := constantI S_ 32 0#32
  let main_v37 : IVec S262144 32 := broadcastInDim S262144 ![] bcast_S_S262144 main_c_5
  let main_v38 : IVec S262144 1 := cmpi .slt main_v35 main_v37
  let main_c_6 : IVec S_ 32 := constantI S_ 32 2048#32
  fn_part2 (F := F) main_v28 main_v32 main_v35 main_v36 main_v38 main_c_6

def fn {F : FTy → Type} [FloatOps F] (main_arg0 : FVec F S16384x256 .f32) (main_arg1 : FVec F S16384x256 .f32) (main_arg2 : IVec S2x262144 32) : IVec S1024 1 × IVec S1024x2 1 × IVec S1024 1 × IVec S1024x2 1 :=
  let main_v0 : FVec F S2048x256 .f32 := (extractStridedSlice S2048x256 ![0, 0] · slices_S16384x256_S2048x256_0_0) main_arg0
  let main_v1 : FVec F S2048x1 .f32 := fn_norm (F := F) main_v0
  let main_v2 : FVec F S16384x1 .f32 := fn_norm_0 (F := F) main_arg0
  let main_v3 : FVec F S1x16384 .f32 := (transpose S1x16384 [1, 0] · transposes_S16384x1_S1x16384_1_0) main_v2
  let main_v4 : FVec F S2048x16384 .f32 := broadcastInDim S2048x16384 ![0, 1] bcast_S2048x1_S2048x16384_0_1 main_v1
  let main_v5 : FVec F S2048x16384 .f32 := broadcastInDim S2048x16384 ![0, 1] bcast_S1x16384_S2048x16384_0_1 main_v3
  let main_v6 : FVec F S2048x16384 .f32 := mulf main_v4 main_v5
  let main_cst : FVec F S_ .f32 := constant S_ .f32 0x322BCC77#32
  let main_v7 : FVec F S2048x16384 .f32 := broadcastInDim S2048x16384 ![] bcast_S_S2048x16384 main_cst
  let main_v8 : FVec F S2048x16384 .f32 := maximumf main_v6 main_v7
  let main_v9 : FVec F S256x16384 .f32 := (transpose S256x16384 [1, 0] · transposes_S16384x256_S256x16384_1_0) main_arg0
  let main_v10 : FVec F S2048x16384 .f32 := (fun l r => Host.dotGeneral dot_S2048x256_S256x16384_S2048x16384_1_0_0_1_n_n none l r) main_v0 main_v9
  let main_v11 : FVec F S2048x16384 .f32 := Host.divf main_v10 main_v8
  let main_v12 : FVec F S2048x256 .f32 := (extractStridedSlice S2048x256 ![0, 0] · slices_S16384x256_S2048x256_0_0) main_arg1
  let main_v13 : FVec F S2048x1 .f32 := fn_norm (F := F) main_v12
  let main_v14 : FVec F S16384x1 .f32 := fn_norm_0 (F := F) main_arg1
  let main_v15 : FVec F S1x16384 .f32 := (transpose S1x16384 [1, 0] · transposes_S16384x1_S1x16384_1_0) main_v14
  let main_v16 : FVec F S2048x16384 .f32 := broadcastInDim S2048x16384 ![0, 1] bcast_S2048x1_S2048x16384_0_1 main_v13
  let main_v17 : FVec F S2048x16384 .f32 := broadcastInDim S2048x16384 ![0, 1] bcast_S1x16384_S2048x16384_0_1 main_v15
  let main_v18 : FVec F S2048x16384 .f32 := mulf main_v16 main_v17
  let main_cst_0 : FVec F S_ .f32 := constant S_ .f32 0x322BCC77#32
  let main_v19 : FVec F S2048x16384 .f32 := broadcastInDim S2048x16384 ![] bcast_S_S2048x16384 main_cst_0
  let main_v20 : FVec F S2048x16384 .f32 := maximumf main_v18 main_v19
  let main_v21 : FVec F S256x16384 .f32 := (transpose S256x16384 [1, 0] · transposes_S16384x256_S256x16384_1_0) main_arg1
  fn_part1 (F := F) main_arg2 main_v11 main_v12 main_v20 main_v21
-- ==== Pre_in_range.lean ====
abbrev S16384x256 : Shape := ⟨2, ![16384, 256]⟩
abbrev S2x262144 : Shape := ⟨2, ![2, 262144]⟩
abbrev S_ : Shape := ⟨0, ![]⟩

class Facts : Prop where
  bcast_S_S2x262144 : S_.BroadcastsInDim S2x262144 (![] : Fin 0 → Fin S2x262144.rank)

variable [Facts]

def fn {F : FTy → Type} [FloatOps F] (main_arg0 : FVec F S16384x256 .f32) (main_arg1 : FVec F S16384x256 .f32) (main_arg2 : IVec S2x262144 32) : IVec S2x262144 1 :=
  let main_c : IVec S_ 32 := constantI S_ 32 0#32
  let main_v0 : IVec S2x262144 32 := broadcastInDim S2x262144 ![] bcast_S_S2x262144 main_c
  let main_v1 : IVec S2x262144 1 := cmpi .sge main_arg2 main_v0
  let main_c_0 : IVec S_ 32 := constantI S_ 32 16384#32
  let main_v2 : IVec S2x262144 32 := broadcastInDim S2x262144 ![] bcast_S_S2x262144 main_c_0
  let main_v3 : IVec S2x262144 1 := cmpi .slt main_arg2 main_v2
  let main_v4 : IVec S2x262144 1 := andi main_v1 main_v3
  main_v4
-- ==== Kernel.lean ====
abbrev S16384x256 : Shape := ⟨2, ![16384, 256]⟩
abbrev S2x262144 : Shape := ⟨2, ![2, 262144]⟩
abbrev S1x262144 : Shape := ⟨2, ![1, 262144]⟩
abbrev S262144 : Shape := ⟨1, ![262144]⟩
abbrev S_ : Shape := ⟨0, ![]⟩
abbrev S33554432 : Shape := ⟨1, ![33554432]⟩
abbrev S262144x1 : Shape := ⟨2, ![262144, 1]⟩
abbrev S2048x16384 : Shape := ⟨2, ![2048, 16384]⟩
abbrev S2048x256 : Shape := ⟨2, ![2048, 256]⟩
abbrev S2048 : Shape := ⟨1, ![2048]⟩
abbrev S2048x1 : Shape := ⟨2, ![2048, 1]⟩
abbrev S16384 : Shape := ⟨1, ![16384]⟩
abbrev S16384x1 : Shape := ⟨2, ![16384, 1]⟩
abbrev S1x16384 : Shape := ⟨2, ![1, 16384]⟩
abbrev S64x2048 : Shape := ⟨2, ![64, 2048]⟩
abbrev S256x256 : Shape := ⟨2, ![256, 256]⟩
abbrev S256x1 : Shape := ⟨2, ![256, 1]⟩
abbrev S1x2048 : Shape := ⟨2, ![1, 2048]⟩
abbrev S256x2048 : Shape := ⟨2, ![256, 2048]⟩
abbrev S8x256 : Shape := ⟨2, ![8, 256]⟩
abbrev S256 : Shape := ⟨1, ![256]⟩
abbrev S256x8 : Shape := ⟨2, ![256, 8]⟩
abbrev S131072 : Shape := ⟨1, ![131072]⟩
abbrev S1024 : Shape := ⟨1, ![1024]⟩
abbrev S1024x1 : Shape := ⟨2, ![1024, 1]⟩
abbrev S1x256 : Shape := ⟨2, ![1, 256]⟩
abbrev S1024x256 : Shape := ⟨2, ![1024, 256]⟩
abbrev S1 : Shape := ⟨1, ![1]⟩
abbrev S1x1 : Shape := ⟨2, ![1, 1]⟩
abbrev S1024x2 : Shape := ⟨2, ![1024, 2]⟩

abbrev nBuf : Space → Nat
  | .hbm => 337
  | .vmem => 26
  | .smem => 0
  | _ => 0

abbrev hbmTy0_0 (i : Nat) : BufTy := match i % 128 with
  | 0 => ⟨S16384x256, .f32⟩
  | 1 => ⟨S16384x256, .f32⟩
  | 2 => ⟨S2x262144, .i32⟩
  | 3 => ⟨S1x262144, .i32⟩
  | 4 => ⟨S262144, .i32⟩
  | 5 => ⟨S1x262144, .i32⟩
  | 6 => ⟨S262144, .i32⟩
  | 7 => ⟨S_, .i32⟩
  | 8 => ⟨S262144, .i32⟩
  | 9 => ⟨S262144, .i1⟩
  | 10 => ⟨S_, .i32⟩
  | 11 => ⟨S262144, .i32⟩
  | 12 => ⟨S262144, .i32⟩
  | 13 => ⟨S262144, .i32⟩
  | 14 => ⟨S_, .i32⟩
  | 15 => ⟨S_, .i32⟩
  | 16 => ⟨S262144, .i32⟩
  | 17 => ⟨S262144, .i32⟩
  | 18 => ⟨S_, .f32⟩
  | 19 => ⟨S33554432, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S_, .f32⟩
  | 29 => ⟨S262144, .f32⟩
  | 30 => ⟨S33554432, .f32⟩
  | 31 => ⟨S2048x16384, .f32⟩
  | 32 => ⟨S2048x256, .f32⟩
  | 33 => ⟨S2048x256, .f32⟩
  | 34 => ⟨S_, .f32⟩
  | 35 => ⟨S2048, .f32⟩
  | 36 => ⟨S2048x1, .f32⟩
  | 37 => ⟨S2048x1, .f32⟩
  | 38 => ⟨S16384x256, .f32⟩
  | 39 => ⟨S_, .f32⟩
  | 40 => ⟨S16384, .f32⟩
  | 41 => ⟨S16384x1, .f32⟩
  | 42 => ⟨S16384x1, .f32⟩
  | 43 => ⟨S1x16384, .f32⟩
  | 44 => ⟨S2048x256, .f32⟩
  | 45 => ⟨S2048x256, .f32⟩
  | 46 => ⟨S_, .f32⟩
  | 47 => ⟨S2048, .f32⟩
  | 48 => ⟨S2048x1, .f32⟩
  | 49 => ⟨S2048x1, .f32⟩
  | 50 => ⟨S16384x256, .f32⟩
  | 51 => ⟨S_, .f32⟩
  | 52 => ⟨S16384, .f32⟩
  | 53 => ⟨S16384x1, .f32⟩
  | 54 => ⟨S16384x1, .f32⟩
  | 55 => ⟨S1x16384, .f32⟩
  | 56 => ⟨S2048x256, .f32⟩
  | 57 => ⟨S2048x256, .f32⟩
  | 58 => ⟨S2048x16384, .f32⟩
  | 59 => ⟨S2048x16384, .f32⟩
  | 60 => ⟨S64x2048, .f32⟩
  | 61 => ⟨S64x2048, .f32⟩
  | 62 => ⟨S131072, .f32⟩
  | 63 => ⟨S1024, .f32⟩
  | 64 => ⟨S1024, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S1024, .i32⟩
  | 72 => ⟨S1024, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i1⟩
  | 79 => ⟨S_, .i32⟩
  | 80 => ⟨S_, .i1⟩
  | 81 => ⟨S1024, .i1⟩
  | 82 => ⟨S1024, .i1⟩
  | 83 => ⟨S1024, .i1⟩
  | 84 => ⟨S1024, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S_, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i1⟩
  | 98 => ⟨S1024, .i32⟩
  | 99 => ⟨S1024, .i32⟩
  | 100 => ⟨S_, .i32⟩
  | 101 => ⟨S1024, .i32⟩
  | 102 => ⟨S1024, .i1⟩
  | 103 => ⟨S1024, .i1⟩
  | 104 => ⟨S_, .i32⟩
  | 105 => ⟨S1024, .i32⟩
  | 106 => ⟨S1024, .i32⟩
  | 107 => ⟨S1024, .i32⟩
  | 108 => ⟨S1024, .i32⟩
  | 109 => ⟨S33554432, .f32⟩
  | 110 => ⟨S1024, .i32⟩
  | 111 => ⟨S1024x1, .i32⟩
  | 112 => ⟨S_, .i32⟩
  | 113 => ⟨S1024x1, .i32⟩
  | 114 => ⟨S1024x1, .i32⟩
  | 115 => ⟨S256, .i32⟩
  | 116 => ⟨S1x256, .i32⟩
  | 117 => ⟨S1024x256, .i32⟩
  | 118 => ⟨S1024x256, .i32⟩
  | 119 => ⟨S1024x256, .i32⟩
  | 120 => ⟨S262144, .i32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S16384x256, .f32⟩

abbrev hbmTy0_1 (i : Nat) : BufTy := match i % 128 with
  | 0 => ⟨S262144x1, .i32⟩
  | 1 => ⟨S1, .i32⟩
  | 2 => ⟨S_, .i32⟩
  | 3 => ⟨S262144x1, .i32⟩
  | 4 => ⟨S262144x1, .i1⟩
  | 5 => ⟨S1x1, .i32⟩
  | 6 => ⟨S262144x1, .i32⟩
  | 7 => ⟨S262144x1, .i1⟩
  | 8 => ⟨S262144x1, .i1⟩
  | 9 => ⟨S_, .i1⟩
  | 10 => ⟨S262144, .i1⟩
  | 11 => ⟨S262144, .f32⟩
  | 12 => ⟨S_, .f32⟩
  | 13 => ⟨S262144, .f32⟩
  | 14 => ⟨S262144, .f32⟩
  | 15 => ⟨S1024, .f32⟩
  | 16 => ⟨S1024, .i32⟩
  | 17 => ⟨S262144, .i32⟩
  | 18 => ⟨S_, .i32⟩
  | 19 => ⟨S1024, .i32⟩
  | 20 => ⟨S1024, .i1⟩
  | 21 => ⟨S_, .i32⟩
  | 22 => ⟨S1024, .i32⟩
  | 23 => ⟨S1024, .i32⟩
  | 24 => ⟨S1024, .i32⟩
  | 25 => ⟨S1024x1, .i32⟩
  | 26 => ⟨S1024, .i32⟩
  | 27 => ⟨S_, .i32⟩
  | 28 => ⟨S_, .i32⟩
  | 29 => ⟨S1024, .i32⟩
  | 30 => ⟨S1024, .i32⟩
  | 31 => ⟨S1024, .i32⟩
  | 32 => ⟨S_, .i32⟩
  | 33 => ⟨S1024, .i32⟩
  | 34 => ⟨S1024, .i1⟩
  | 35 => ⟨S1024, .i32⟩
  | 36 => ⟨S1024, .i32⟩
  | 37 => ⟨S_, .i32⟩
  | 38 => ⟨S1024, .i32⟩
  | 39 => ⟨S1024, .i1⟩
  | 40 => ⟨S1024, .i1⟩
  | 41 => ⟨S_, .i32⟩
  | 42 => ⟨S1024, .i32⟩
  | 43 => ⟨S1024, .i32⟩
  | 44 => ⟨S1024, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i1⟩
  | 59 => ⟨S_, .i32⟩
  | 60 => ⟨S_, .i1⟩
  | 61 => ⟨S1024, .i1⟩
  | 62 => ⟨S1024, .i1⟩
  | 63 => ⟨S1024, .i1⟩
  | 64 => ⟨S1024, .i32⟩
  | 65 => ⟨S1024, .i32⟩
  | 66 => ⟨S1024, .i32⟩
  | 67 => ⟨S1024x1, .i32⟩
  | 68 => ⟨S1024x1, .i32⟩
  | 69 => ⟨S1024x2, .i32⟩
  | 70 => ⟨S131072, .f32⟩
  | 71 => ⟨S131072, .f32⟩
  | 72 => ⟨S1024, .f32⟩
  | 73 => ⟨S1024, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S1024, .i32⟩
  | 81 => ⟨S1024, .i32⟩
  | 82 => ⟨S_, .i32⟩
  | 83 => ⟨S1024, .i32⟩
  | 84 => ⟨S1024, .i1⟩
  | 85 => ⟨S_, .i32⟩
  | 86 => ⟨S1024, .i32⟩
  | 87 => ⟨S1024, .i1⟩
  | 88 => ⟨S_, .i32⟩
  | 89 => ⟨S_, .i1⟩
  | 90 => ⟨S1024, .i1⟩
  | 91 => ⟨S1024, .i1⟩
  | 92 => ⟨S1024, .i1⟩
  | 93 => ⟨S1024, .i32⟩
  | 94 => ⟨S1024, .i32⟩
  | 95 => ⟨S1024, .i32⟩
  | 96 => ⟨S_, .i32⟩
  | 97 => ⟨S1024, .i32⟩
  | 98 => ⟨S1024, .i32⟩
  | 99 => ⟨S_, .i32⟩
  | 100 => ⟨S_, .i32⟩
  | 101 => ⟨S1024, .i32⟩
  | 102 => ⟨S1024, .i32⟩
  | 103 => ⟨S1024, .i32⟩
  | 104 => ⟨S_, .i32⟩
  | 105 => ⟨S1024, .i32⟩
  | 106 => ⟨S1024, .i1⟩
  | 107 => ⟨S1024, .i32⟩
  | 108 => ⟨S1024, .i32⟩
  | 109 => ⟨S_, .i32⟩
  | 110 => ⟨S1024, .i32⟩
  | 111 => ⟨S1024, .i1⟩
  | 112 => ⟨S1024, .i1⟩
  | 113 => ⟨S_, .i32⟩
  | 114 => ⟨S1024, .i32⟩
  | 115 => ⟨S1024, .i32⟩
  | 116 => ⟨S1024, .i32⟩
  | 117 => ⟨S1024, .i32⟩
  | 118 => ⟨S33554432, .f32⟩
  | 119 => ⟨S1024, .i32⟩
  | 120 => ⟨S1024x1, .i32⟩
  | 121 => ⟨S_, .i32⟩
  | 122 => ⟨S1024x1, .i32⟩
  | 123 => ⟨S1024x1, .i32⟩
  | 124 => ⟨S256, .i32⟩
  | 125 => ⟨S1x256, .i32⟩
  | 126 => ⟨S1024x256, .i32⟩
  | 127 => ⟨S1024x256, .i32⟩
  | _ => ⟨S16384x256, .f32⟩

abbrev hbmTy0_2 (i : Nat) : BufTy := match i % 128 with
  | 0 => ⟨S1024x256, .i32⟩
  | 1 => ⟨S262144, .i32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S1, .i32⟩
  | 11 => ⟨S_, .i32⟩
  | 12 => ⟨S262144x1, .i32⟩
  | 13 => ⟨S262144x1, .i1⟩
  | 14 => ⟨S1x1, .i32⟩
  | 15 => ⟨S262144x1, .i32⟩
  | 16 => ⟨S262144x1, .i1⟩
  | 17 => ⟨S262144x1, .i1⟩
  | 18 => ⟨S_, .i1⟩
  | 19 => ⟨S262144, .i1⟩
  | 20 => ⟨S262144, .f32⟩
  | 21 => ⟨S_, .f32⟩
  | 22 => ⟨S262144, .f32⟩
  | 23 => ⟨S262144, .f32⟩
  | 24 => ⟨S262144, .f32⟩
  | 25 => ⟨S1024, .f32⟩
  | 26 => ⟨S1024, .i32⟩
  | 27 => ⟨S262144, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S1024, .i32⟩
  | 37 => ⟨S_, .i32⟩
  | 38 => ⟨S_, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i1⟩
  | 45 => ⟨S1024, .i32⟩
  | 46 => ⟨S1024, .i32⟩
  | 47 => ⟨S_, .i32⟩
  | 48 => ⟨S1024, .i32⟩
  | 49 => ⟨S1024, .i1⟩
  | 50 => ⟨S1024, .i1⟩
  | 51 => ⟨S_, .i32⟩
  | 52 => ⟨S1024, .i32⟩
  | 53 => ⟨S1024, .i32⟩
  | 54 => ⟨S1024, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1024, .i32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i1⟩
  | 69 => ⟨S_, .i32⟩
  | 70 => ⟨S_, .i1⟩
  | 71 => ⟨S1024, .i1⟩
  | 72 => ⟨S1024, .i1⟩
  | 73 => ⟨S1024, .i1⟩
  | 74 => ⟨S1024, .i32⟩
  | 75 => ⟨S1024, .i32⟩
  | 76 => ⟨S1024, .i32⟩
  | 77 => ⟨S1024x1, .i32⟩
  | 78 => ⟨S1024x1, .i32⟩
  | 79 => ⟨S1024x2, .i32⟩
  | 80 => ⟨S1024, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S1x2048, .f32⟩
  | .local _ .vmem, ⟨12, _⟩ => ⟨S256x1, .f32⟩
  | .local _ .vmem, ⟨13, _⟩ => ⟨S256x1, .f32⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S8x256, .f32⟩
  | .local _ .vmem, ⟨23, _⟩ => ⟨S8x256, .f32⟩
  | .local _ .vmem, ⟨24, _⟩ => ⟨S8x256, .f32⟩
  | .local _ .vmem, ⟨25, _⟩ => ⟨S8x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v21 : Ref sig .tc := ⟨.hbm, 37, rfl⟩
abbrev main_call2_v0 : Ref sig .tc := ⟨.hbm, 38, rfl⟩
abbrev main_call2_cst : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_v0 : Ref sig .tc := ⟨.hbm, 45, rfl⟩
abbrev main_call3_cst : Ref sig .tc := ⟨.hbm, 46, rfl⟩
abbrev main_call3_v1 : Ref sig .tc := ⟨.hbm, 47, rfl⟩
abbrev main_call3_v2 : Ref sig .tc := ⟨.hbm, 48, rfl⟩
abbrev main_v25 : Ref sig .tc := ⟨.hbm, 49, rfl⟩
abbrev main_call4_v0 : Ref sig .tc := ⟨.hbm, 50, rfl⟩
abbrev main_call4_cst : Ref sig .tc := ⟨.hbm, 51, rfl⟩
abbrev main_call4_v1 : Ref sig .tc := ⟨.hbm, 52, rfl⟩
abbrev main_call4_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v30_2 : Ref sig .tc := ⟨.hbm, 60, rfl⟩
abbrev main_v30_3 : Ref sig .tc := ⟨.hbm, 61, rfl⟩
abbrev main_v31 : Ref sig .tc := ⟨.hbm, 62, rfl⟩
abbrev main_values : Ref sig .tc := ⟨.hbm, 63, rfl⟩
abbrev main_indices : Ref sig .tc := ⟨.hbm, 64, rfl⟩
abbrev main_c_5 : Ref sig .tc := ⟨.hbm, 65, rfl⟩
abbrev main_call5_v0 : Ref sig .tc := ⟨.hbm, 66, rfl⟩
abbrev main_call5_c : Ref sig .tc := ⟨.hbm, 67, rfl⟩
abbrev main_call5_v1 : Ref sig .tc := ⟨.hbm, 68, rfl⟩
abbrev main_call5_c_0 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_c_1 : Ref sig .tc := ⟨.hbm, 73, rfl⟩
abbrev main_call5_v5 : Ref sig .tc := ⟨.hbm, 74, rfl⟩
abbrev main_call5_v6 : Ref sig .tc := ⟨.hbm, 75, rfl⟩
abbrev main_call5_c_2 : Ref sig .tc := ⟨.hbm, 76, rfl⟩
abbrev main_call5_v7 : Ref sig .tc := ⟨.hbm, 77, rfl⟩
abbrev main_call5_v8 : Ref sig .tc := ⟨.hbm, 78, rfl⟩
abbrev main_call5_c_3 : Ref sig .tc := ⟨.hbm, 79, rfl⟩
abbrev main_call5_v9 : Ref sig .tc := ⟨.hbm, 80, rfl⟩
abbrev main_call5_v10 : Ref sig .tc := ⟨.hbm, 81, rfl⟩
abbrev main_call5_v11 : Ref sig .tc := ⟨.hbm, 82, rfl⟩
abbrev main_call5_v12 : Ref sig .tc := ⟨.hbm, 83, rfl⟩
abbrev main_call5_v13 : Ref sig .tc := ⟨.hbm, 84, rfl⟩
abbrev main_call5_v14 : Ref sig .tc := ⟨.hbm, 85, rfl⟩
abbrev main_v32 : Ref sig .tc := ⟨.hbm, 86, rfl⟩
abbrev main_c_6 : Ref sig .tc := ⟨.hbm, 87, rfl⟩
abbrev main_v33 : Ref sig .tc := ⟨.hbm, 88, rfl⟩
abbrev main_v34 : Ref sig .tc := ⟨.hbm, 89, rfl⟩
abbrev main_c_7 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_c : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_0 : Ref sig .tc := ⟨.hbm, 104, rfl⟩
abbrev main_call6_v12 : Ref sig .tc := ⟨.hbm, 105, rfl⟩
abbrev main_call6_v13 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_c_8 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_call8_c : Ref sig .tc := ⟨.hbm, 121, rfl⟩
abbrev main_call8_v0 : Ref sig .tc := ⟨.hbm, 122, rfl⟩
abbrev main_call8_v1 : Ref sig .tc := ⟨.hbm, 123, rfl⟩
abbrev main_call8_c_0 : Ref sig .tc := ⟨.hbm, 124, rfl⟩
abbrev main_call8_v2 : Ref sig .tc := ⟨.hbm, 125, rfl⟩
abbrev main_call8_v3 : Ref sig .tc := ⟨.hbm, 126, rfl⟩
abbrev main_call8_v4 : Ref sig .tc := ⟨.hbm, 127, rfl⟩
abbrev main_call8_v5 : Ref sig .tc := ⟨.hbm, 128, rfl⟩
abbrev main_call8_c_1 : Ref sig .tc := ⟨.hbm, 129, rfl⟩
abbrev main_call8_c_2 : Ref sig .tc := ⟨.hbm, 130, rfl⟩
abbrev main_call8_v6 : Ref sig .tc := ⟨.hbm, 131, rfl⟩
abbrev main_call8_v7 : Ref sig .tc := ⟨.hbm, 132, rfl⟩
abbrev main_call8_v8 : Ref sig .tc := ⟨.hbm, 133, rfl⟩
abbrev main_call8_v9 : Ref sig .tc := ⟨.hbm, 134, rfl⟩
abbrev main_call8_v10 : Ref sig .tc := ⟨.hbm, 135, rfl⟩
abbrev main_call8_v11 : Ref sig .tc := ⟨.hbm, 136, rfl⟩
abbrev main_call8_c_3 : Ref sig .tc := ⟨.hbm, 137, rfl⟩
abbrev main_call8_v12 : Ref sig .tc := ⟨.hbm, 138, rfl⟩
abbrev main_call8_v13 : Ref sig .tc := ⟨.hbm, 139, rfl⟩
abbrev main_call8_cst : Ref sig .tc := ⟨.hbm, 140, rfl⟩
abbrev main_call8_v14 : Ref sig .tc := ⟨.hbm, 141, rfl⟩
abbrev main_v48 : Ref sig .tc := ⟨.hbm, 142, rfl⟩
abbrev main_values_9 : Ref sig .tc := ⟨.hbm, 143, rfl⟩
abbrev main_indices_10 : Ref sig .tc := ⟨.hbm, 144, rfl⟩
abbrev main_v49 : Ref sig .tc := ⟨.hbm, 145, rfl⟩
abbrev main_c_11 : Ref sig .tc := ⟨.hbm, 146, rfl⟩
abbrev main_v50 : Ref sig .tc := ⟨.hbm, 147, rfl⟩
abbrev main_v51 : Ref sig .tc := ⟨.hbm, 148, rfl⟩
abbrev main_c_12 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_c_13 : Ref sig .tc := ⟨.hbm, 155, rfl⟩
abbrev main_call9_v0 : Ref sig .tc := ⟨.hbm, 156, rfl⟩
abbrev main_call9_v1 : Ref sig .tc := ⟨.hbm, 157, rfl⟩
abbrev main_call9_v2 : Ref sig .tc := ⟨.hbm, 158, rfl⟩
abbrev main_call9_v3 : Ref sig .tc := ⟨.hbm, 159, rfl⟩
abbrev main_call9_v4 : Ref sig .tc := ⟨.hbm, 160, rfl⟩
abbrev main_call9_v5 : Ref sig .tc := ⟨.hbm, 161, rfl⟩
abbrev main_call9_v6 : Ref sig .tc := ⟨.hbm, 162, rfl⟩
abbrev main_call9_v7 : Ref sig .tc := ⟨.hbm, 163, rfl⟩
abbrev main_call9_v8 : Ref sig .tc := ⟨.hbm, 164, rfl⟩
abbrev main_call9_c : Ref sig .tc := ⟨.hbm, 165, rfl⟩
abbrev main_call9_v9 : Ref sig .tc := ⟨.hbm, 166, rfl⟩
abbrev main_call9_v10 : Ref sig .tc := ⟨.hbm, 167, rfl⟩
abbrev main_call9_v11 : Ref sig .tc := ⟨.hbm, 168, rfl⟩
abbrev main_call9_c_0 : Ref sig .tc := ⟨.hbm, 169, rfl⟩
abbrev main_call9_v12 : Ref sig .tc := ⟨.hbm, 170, rfl⟩
abbrev main_call9_v13 : Ref sig .tc := ⟨.hbm, 171, rfl⟩
abbrev main_v57 : Ref sig .tc := ⟨.hbm, 172, rfl⟩
abbrev main_c_14 : Ref sig .tc := ⟨.hbm, 173, rfl⟩
abbrev main_call10_v0 : Ref sig .tc := ⟨.hbm, 174, rfl⟩
abbrev main_call10_c : Ref sig .tc := ⟨.hbm, 175, rfl⟩
abbrev main_call10_v1 : Ref sig .tc := ⟨.hbm, 176, rfl⟩
abbrev main_call10_c_0 : Ref sig .tc := ⟨.hbm, 177, rfl⟩
abbrev main_call10_v2 : Ref sig .tc := ⟨.hbm, 178, rfl⟩
abbrev main_call10_v3 : Ref sig .tc := ⟨.hbm, 179, rfl⟩
abbrev main_call10_v4 : Ref sig .tc := ⟨.hbm, 180, rfl⟩
abbrev main_call10_c_1 : Ref sig .tc := ⟨.hbm, 181, rfl⟩
abbrev main_call10_v5 : Ref sig .tc := ⟨.hbm, 182, rfl⟩
abbrev main_call10_v6 : Ref sig .tc := ⟨.hbm, 183, rfl⟩
abbrev main_call10_c_2 : Ref sig .tc := ⟨.hbm, 184, rfl⟩
abbrev main_call10_v7 : Ref sig .tc := ⟨.hbm, 185, rfl⟩
abbrev main_call10_v8 : Ref sig .tc := ⟨.hbm, 186, rfl⟩
abbrev main_call10_c_3 : Ref sig .tc := ⟨.hbm, 187, rfl⟩
abbrev main_call10_v9 : Ref sig .tc := ⟨.hbm, 188, rfl⟩
abbrev main_call10_v10 : Ref sig .tc := ⟨.hbm, 189, rfl⟩
abbrev main_call10_v11 : Ref sig .tc := ⟨.hbm, 190, rfl⟩
abbrev main_call10_v12 : Ref sig .tc := ⟨.hbm, 191, rfl⟩
abbrev main_call10_v13 : Ref sig .tc := ⟨.hbm, 192, rfl⟩
abbrev main_call10_v14 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_v62 : Ref sig .tc := ⟨.hbm, 198, rfl⟩
abbrev main_v63 : Ref sig .tc := ⟨.hbm, 199, rfl⟩
abbrev main_values_15 : Ref sig .tc := ⟨.hbm, 200, rfl⟩
abbrev main_indices_16 : Ref sig .tc := ⟨.hbm, 201, rfl⟩
abbrev main_c_17 : Ref sig .tc := ⟨.hbm, 202, rfl⟩
abbrev main_call11_v0 : Ref sig .tc := ⟨.hbm, 203, rfl⟩
abbrev main_call11_c : Ref sig .tc := ⟨.hbm, 204, rfl⟩
abbrev main_call11_v1 : Ref sig .tc := ⟨.hbm, 205, rfl⟩
abbrev main_call11_c_0 : Ref sig .tc := ⟨.hbm, 206, rfl⟩
abbrev main_call11_v2 : Ref sig .tc := ⟨.hbm, 207, rfl⟩
abbrev main_call11_v3 : Ref sig .tc := ⟨.hbm, 208, rfl⟩
abbrev main_call11_v4 : Ref sig .tc := ⟨.hbm, 209, rfl⟩
abbrev main_call11_c_1 : Ref sig .tc := ⟨.hbm, 210, rfl⟩
abbrev main_call11_v5 : Ref sig .tc := ⟨.hbm, 211, rfl⟩
abbrev main_call11_v6 : Ref sig .tc := ⟨.hbm, 212, rfl⟩
abbrev main_call11_c_2 : Ref sig .tc := ⟨.hbm, 213, rfl⟩
abbrev main_call11_v7 : Ref sig .tc := ⟨.hbm, 214, rfl⟩
abbrev main_call11_v8 : Ref sig .tc := ⟨.hbm, 215, rfl⟩
abbrev main_call11_c_3 : Ref sig .tc := ⟨.hbm, 216, rfl⟩
abbrev main_call11_v9 : Ref sig .tc := ⟨.hbm, 217, rfl⟩
abbrev main_call11_v10 : Ref sig .tc := ⟨.hbm, 218, rfl⟩
abbrev main_call11_v11 : Ref sig .tc := ⟨.hbm, 219, rfl⟩
abbrev main_call11_v12 : Ref sig .tc := ⟨.hbm, 220, rfl⟩
abbrev main_call11_v13 : Ref sig .tc := ⟨.hbm, 221, rfl⟩
abbrev main_call11_v14 : Ref sig .tc := ⟨.hbm, 222, rfl⟩
abbrev main_v64 : Ref sig .tc := ⟨.hbm, 223, rfl⟩
abbrev main_c_18 : Ref sig .tc := ⟨.hbm, 224, rfl⟩
abbrev main_v65 : Ref sig .tc := ⟨.hbm, 225, rfl⟩
abbrev main_v66 : Ref sig .tc := ⟨.hbm, 226, rfl⟩
abbrev main_c_19 : Ref sig .tc := ⟨.hbm, 227, rfl⟩
abbrev main_call12_v0 : Ref sig .tc := ⟨.hbm, 228, rfl⟩
abbrev main_call12_v1 : Ref sig .tc := ⟨.hbm, 229, rfl⟩
abbrev main_call12_v2 : Ref sig .tc := ⟨.hbm, 230, rfl⟩
abbrev main_call12_v3 : Ref sig .tc := ⟨.hbm, 231, rfl⟩
abbrev main_call12_v4 : Ref sig .tc := ⟨.hbm, 232, rfl⟩
abbrev main_call12_v5 : Ref sig .tc := ⟨.hbm, 233, rfl⟩
abbrev main_call12_v6 : Ref sig .tc := ⟨.hbm, 234, rfl⟩
abbrev main_call12_v7 : Ref sig .tc := ⟨.hbm, 235, rfl⟩
abbrev main_call12_v8 : Ref sig .tc := ⟨.hbm, 236, rfl⟩
abbrev main_call12_c : Ref sig .tc := ⟨.hbm, 237, rfl⟩
abbrev main_call12_v9 : Ref sig .tc := ⟨.hbm, 238, rfl⟩
abbrev main_call12_v10 : Ref sig .tc := ⟨.hbm, 239, rfl⟩
abbrev main_call12_v11 : Ref sig .tc := ⟨.hbm, 240, rfl⟩
abbrev main_call12_c_0 : Ref sig .tc := ⟨.hbm, 241, rfl⟩
abbrev main_call12_v12 : Ref sig .tc := ⟨.hbm, 242, rfl⟩
abbrev main_call12_v13 : Ref sig .tc := ⟨.hbm, 243, rfl⟩
abbrev main_v67 : Ref sig .tc := ⟨.hbm, 244, rfl⟩
abbrev main_v68 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_c_20 : Ref sig .tc := ⟨.hbm, 249, rfl⟩
abbrev main_v72 : Ref sig .tc := ⟨.hbm, 250, rfl⟩
abbrev main_v73 : Ref sig .tc := ⟨.hbm, 251, rfl⟩
abbrev main_v74 : Ref sig .tc := ⟨.hbm, 252, rfl⟩
abbrev main_v75 : Ref sig .tc := ⟨.hbm, 253, rfl⟩
abbrev main_v76 : Ref sig .tc := ⟨.hbm, 254, rfl⟩
abbrev main_v77 : Ref sig .tc := ⟨.hbm, 255, rfl⟩
abbrev main_v78 : Ref sig .tc := ⟨.hbm, 256, rfl⟩
abbrev main_v79 : Ref sig .tc := ⟨.hbm, 257, rfl⟩
abbrev main_call14_c : Ref sig .tc := ⟨.hbm, 258, rfl⟩
abbrev main_call14_v0 : Ref sig .tc := ⟨.hbm, 259, rfl⟩
abbrev main_call14_v1 : Ref sig .tc := ⟨.hbm, 260, rfl⟩
abbrev main_call14_c_0 : Ref sig .tc := ⟨.hbm, 261, rfl⟩
abbrev main_call14_v2 : Ref sig .tc := ⟨.hbm, 262, rfl⟩
abbrev main_call14_v3 : Ref sig .tc := ⟨.hbm, 263, rfl⟩
abbrev main_call14_v4 : Ref sig .tc := ⟨.hbm, 264, rfl⟩
abbrev main_call14_v5 : Ref sig .tc := ⟨.hbm, 265, rfl⟩
abbrev main_call14_c_1 : Ref sig .tc := ⟨.hbm, 266, rfl⟩
abbrev main_call14_c_2 : Ref sig .tc := ⟨.hbm, 267, rfl⟩
abbrev main_call14_v6 : Ref sig .tc := ⟨.hbm, 268, rfl⟩
abbrev main_call14_v7 : Ref sig .tc := ⟨.hbm, 269, rfl⟩
abbrev main_call14_v8 : Ref sig .tc := ⟨.hbm, 270, rfl⟩
abbrev main_call14_v9 : Ref sig .tc := ⟨.hbm, 271, rfl⟩
abbrev main_call14_v10 : Ref sig .tc := ⟨.hbm, 272, rfl⟩
abbrev main_call14_v11 : Ref sig .tc := ⟨.hbm, 273, rfl⟩
abbrev main_call14_c_3 : Ref sig .tc := ⟨.hbm, 274, rfl⟩
abbrev main_call14_v12 : Ref sig .tc := ⟨.hbm, 275, rfl⟩
abbrev main_call14_v13 : Ref sig .tc := ⟨.hbm, 276, rfl⟩
abbrev main_call14_cst : Ref sig .tc := ⟨.hbm, 277, rfl⟩
abbrev main_call14_v14 : Ref sig .tc := ⟨.hbm, 278, rfl⟩
abbrev main_v80 : Ref sig .tc := ⟨.hbm, 279, rfl⟩
abbrev main_v81 : Ref sig .tc := ⟨.hbm, 280, rfl⟩
abbrev main_values_21 : Ref sig .tc := ⟨.hbm, 281, rfl⟩
abbrev main_indices_22 : Ref sig .tc := ⟨.hbm, 282, rfl⟩
abbrev main_v82 : Ref sig .tc := ⟨.hbm, 283, rfl⟩
abbrev main_c_23 : Ref sig .tc := ⟨.hbm, 284, rfl⟩
abbrev main_v83 : Ref sig .tc := ⟨.hbm, 285, rfl⟩
abbrev main_v84 : Ref sig .tc := ⟨.hbm, 286, rfl⟩
abbrev main_c_24 : Ref sig .tc := ⟨.hbm, 287, rfl⟩
abbrev main_v85 : Ref sig .tc := ⟨.hbm, 288, rfl⟩
abbrev main_v86 : Ref sig .tc := ⟨.hbm, 289, rfl⟩
abbrev main_v87 : Ref sig .tc := ⟨.hbm, 290, rfl⟩
abbrev main_v88 : Ref sig .tc := ⟨.hbm, 291, rfl⟩
abbrev main_v89 : Ref sig .tc := ⟨.hbm, 292, rfl⟩
abbrev main_c_25 : Ref sig .tc := ⟨.hbm, 293, rfl⟩
abbrev main_call15_v0 : Ref sig .tc := ⟨.hbm, 294, rfl⟩
abbrev main_call15_v1 : Ref sig .tc := ⟨.hbm, 295, rfl⟩
abbrev main_call15_v2 : Ref sig .tc := ⟨.hbm, 296, rfl⟩
abbrev main_call15_v3 : Ref sig .tc := ⟨.hbm, 297, rfl⟩
abbrev main_call15_v4 : Ref sig .tc := ⟨.hbm, 298, rfl⟩
abbrev main_call15_v5 : Ref sig .tc := ⟨.hbm, 299, rfl⟩
abbrev main_call15_v6 : Ref sig .tc := ⟨.hbm, 300, rfl⟩
abbrev main_call15_v7 : Ref sig .tc := ⟨.hbm, 301, rfl⟩
abbrev main_call15_v8 : Ref sig .tc := ⟨.hbm, 302, rfl⟩
abbrev main_call15_c : Ref sig .tc := ⟨.hbm, 303, rfl⟩
abbrev main_call15_v9 : Ref sig .tc := ⟨.hbm, 304, rfl⟩
abbrev main_call15_v10 : Ref sig .tc := ⟨.hbm, 305, rfl⟩
abbrev main_call15_v11 : Ref sig .tc := ⟨.hbm, 306, rfl⟩
abbrev main_call15_c_0 : Ref sig .tc := ⟨.hbm, 307, rfl⟩
abbrev main_call15_v12 : Ref sig .tc := ⟨.hbm, 308, rfl⟩
abbrev main_call15_v13 : Ref sig .tc := ⟨.hbm, 309, rfl⟩
abbrev main_v90 : Ref sig .tc := ⟨.hbm, 310, rfl⟩
abbrev main_c_26 : Ref sig .tc := ⟨.hbm, 311, rfl⟩
abbrev main_call16_v0 : Ref sig .tc := ⟨.hbm, 312, rfl⟩
abbrev main_call16_c : Ref sig .tc := ⟨.hbm, 313, rfl⟩
abbrev main_call16_v1 : Ref sig .tc := ⟨.hbm, 314, rfl⟩
abbrev main_call16_c_0 : Ref sig .tc := ⟨.hbm, 315, rfl⟩
abbrev main_call16_v2 : Ref sig .tc := ⟨.hbm, 316, rfl⟩
abbrev main_call16_v3 : Ref sig .tc := ⟨.hbm, 317, rfl⟩
abbrev main_call16_v4 : Ref sig .tc := ⟨.hbm, 318, rfl⟩
abbrev main_call16_c_1 : Ref sig .tc := ⟨.hbm, 319, rfl⟩
abbrev main_call16_v5 : Ref sig .tc := ⟨.hbm, 320, rfl⟩
abbrev main_call16_v6 : Ref sig .tc := ⟨.hbm, 321, rfl⟩
abbrev main_call16_c_2 : Ref sig .tc := ⟨.hbm, 322, rfl⟩
abbrev main_call16_v7 : Ref sig .tc := ⟨.hbm, 323, rfl⟩
abbrev main_call16_v8 : Ref sig .tc := ⟨.hbm, 324, rfl⟩
abbrev main_call16_c_3 : Ref sig .tc := ⟨.hbm, 325, rfl⟩
abbrev main_call16_v9 : Ref sig .tc := ⟨.hbm, 326, rfl⟩
abbrev main_call16_v10 : Ref sig .tc := ⟨.hbm, 327, rfl⟩
abbrev main_call16_v11 : Ref sig .tc := ⟨.hbm, 328, rfl⟩
abbrev main_call16_v12 : Ref sig .tc := ⟨.hbm, 329, rfl⟩
abbrev main_call16_v13 : Ref sig .tc := ⟨.hbm, 330, rfl⟩
abbrev main_call16_v14 : Ref sig .tc := ⟨.hbm, 331, rfl⟩
abbrev main_v91 : Ref sig .tc := ⟨.hbm, 332, rfl⟩
abbrev main_v92 : Ref sig .tc := ⟨.hbm, 333, rfl⟩
abbrev main_v93 : Ref sig .tc := ⟨.hbm, 334, rfl⟩
abbrev main_v94 : Ref sig .tc := ⟨.hbm, 335, rfl⟩
abbrev main_v95 : Ref sig .tc := ⟨.hbm, 336, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x256 : Shape := ⟨2, ![16384, 256]⟩
abbrev S2x262144 : Shape := ⟨2, ![2, 262144]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S16384 : Shape := ⟨1, ![16384]⟩
abbrev S16384x1 : Shape := ⟨2, ![16384, 1]⟩
abbrev S1x16384 : Shape := ⟨2, ![1, 16384]⟩
abbrev S2048x16384 : Shape := ⟨2, ![2048, 16384]⟩
abbrev S256x16384 : Shape := ⟨2, ![256, 16384]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S2048x2 : Shape := ⟨2, ![2048, 2]⟩
abbrev S33554432 : Shape := ⟨1, ![33554432]⟩
abbrev S1024 : Shape := ⟨1, ![1024]⟩
abbrev S1024x1 : Shape := ⟨2, ![1024, 1]⟩
abbrev S1024x2 : Shape := ⟨2, ![1024, 2]⟩

abbrev nBuf : Space → Nat
  | .hbm => 214
  | .vmem => 0
  | .smem => 0
  | _ => 0

abbrev hbmTy0_0 (i : Nat) : BufTy := match i % 128 with
  | 0 => ⟨S16384x256, .f32⟩
  | 1 => ⟨S16384x256, .f32⟩
  | 2 => ⟨S2x262144, .i32⟩
  | 3 => ⟨S2048x256, .f32⟩
  | 4 => ⟨S2048x256, .f32⟩
  | 5 => ⟨S_, .f32⟩
  | 6 => ⟨S2048, .f32⟩
  | 7 => ⟨S2048x1, .f32⟩
  | 8 => ⟨S2048x1, .f32⟩
  | 9 => ⟨S16384x256, .f32⟩
  | 10 => ⟨S_, .f32⟩
  | 11 => ⟨S16384, .f32⟩
  | 12 => ⟨S16384x1, .f32⟩
  | 13 => ⟨S16384x1, .f32⟩
  | 14 => ⟨S1x16384, .f32⟩
  | 15 => ⟨S2048x16384, .f32⟩
  | 16 => ⟨S2048x16384, .f32⟩
  | 17 => ⟨S2048x16384, .f32⟩
  | 18 => ⟨S_, .f32⟩
  | 19 => ⟨S2048x16384, .f32⟩
  | 20 => ⟨S2048x16384, .f32⟩
  | 21 => ⟨S256x16384, .f32⟩
  | 22 => ⟨S2048x16384, .f32⟩
  | 23 => ⟨S2048x16384, .f32⟩
  | 24 => ⟨S2048x256, .f32⟩
  | 25 => ⟨S2048x256, .f32⟩
  | 26 => ⟨S_, .f32⟩
  | 27 => ⟨S2048, .f32⟩
  | 28 => ⟨S2048x1, .f32⟩
  | 29 => ⟨S2048x1, .f32⟩
  | 30 => ⟨S16384x256, .f32⟩
  | 31 => ⟨S_, .f32⟩
  | 32 => ⟨S16384, .f32⟩
  | 33 => ⟨S16384x1, .f32⟩
  | 34 => ⟨S16384x1, .f32⟩
  | 35 => ⟨S1x16384, .f32⟩
  | 36 => ⟨S2048x16384, .f32⟩
  | 37 => ⟨S2048x16384, .f32⟩
  | 38 => ⟨S2048x16384, .f32⟩
  | 39 => ⟨S_, .f32⟩
  | 40 => ⟨S2048x16384, .f32⟩
  | 41 => ⟨S2048x16384, .f32⟩
  | 42 => ⟨S256x16384, .f32⟩
  | 43 => ⟨S2048x16384, .f32⟩
  | 44 => ⟨S2048x16384, .f32⟩
  | 45 => ⟨S_, .f32⟩
  | 46 => ⟨S2048x16384, .f32⟩
  | 47 => ⟨S2048x16384, .f32⟩
  | 48 => ⟨S_, .f32⟩
  | 49 => ⟨S2048x16384, .f32⟩
  | 50 => ⟨S2048x16384, .f32⟩
  | 51 => ⟨S2048x16384, .f32⟩
  | 52 => ⟨S1x262144, .i32⟩
  | 53 => ⟨S262144, .i32⟩
  | 54 => ⟨S1x262144, .i32⟩
  | 55 => ⟨S262144, .i32⟩
  | 56 => ⟨S_, .i32⟩
  | 57 => ⟨S262144, .i32⟩
  | 58 => ⟨S262144, .i1⟩
  | 59 => ⟨S_, .i32⟩
  | 60 => ⟨S_, .i32⟩
  | 61 => ⟨S262144, .i32⟩
  | 62 => ⟨S262144, .i32⟩
  | 63 => ⟨S_, .f32⟩
  | 64 => ⟨S2048x16384, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S262144x1, .i32⟩
  | 80 => ⟨S262144x1, .i32⟩
  | 81 => ⟨S262144x2, .i32⟩
  | 82 => ⟨S_, .f32⟩
  | 83 => ⟨S262144, .f32⟩
  | 84 => ⟨S2048x16384, .f32⟩
  | 85 => ⟨S2048, .i32⟩
  | 86 => ⟨S_, .f32⟩
  | 87 => ⟨S2048x16384, .f32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S_, .i32⟩
  | 96 => ⟨S2048, .i32⟩
  | 97 => ⟨S2048, .i1⟩
  | 98 => ⟨S_, .i32⟩
  | 99 => ⟨S2048, .i32⟩
  | 100 => ⟨S2048, .i32⟩
  | 101 => ⟨S2048, .i32⟩
  | 102 => ⟨S2048x1, .i32⟩
  | 103 => ⟨S2048x1, .i32⟩
  | 104 => ⟨S2048x2, .i32⟩
  | 105 => ⟨S_, .f32⟩
  | 106 => ⟨S2048, .f32⟩
  | 107 => ⟨S2048x16384, .f32⟩
  | 108 => ⟨S2048x16384, .f32⟩
  | 109 => ⟨S_, .f32⟩
  | 110 => ⟨S2048x16384, .f32⟩
  | 111 => ⟨S2048x16384, .f32⟩
  | 112 => ⟨S_, .f32⟩
  | 113 => ⟨S2048x16384, .f32⟩
  | 114 => ⟨S2048x16384, .f32⟩
  | 115 => ⟨S_, .f32⟩
  | 116 => ⟨S2048x16384, .f32⟩
  | 117 => ⟨S2048x16384, .f32⟩
  | 118 => ⟨S2048x16384, .f32⟩
  | 119 => ⟨S33554432, .f32⟩
  | 120 => ⟨S2048x16384, .f32⟩
  | 121 => ⟨S33554432, .f32⟩
  | 122 => ⟨S1024, .f32⟩
  | 123 => ⟨S1024, .i32⟩
  | 124 => ⟨S33554432, .f32⟩
  | 125 => ⟨S1024, .f32⟩
  | 126 => ⟨S1024, .i32⟩
  | 127 => ⟨S1024, .f32⟩
  | _ => ⟨S16384x256, .f32⟩

abbrev hbmTy0_1 (i : Nat) : BufTy := match i % 128 with
  | 0 => ⟨S_, .i32⟩
  | 1 => ⟨S_, .i32⟩
  | 2 => ⟨S1024, .i32⟩
  | 3 => ⟨S1024, .i32⟩
  | 4 => ⟨S1024, .i32⟩
  | 5 => ⟨S_, .i32⟩
  | 6 => ⟨S1024, .i32⟩
  | 7 => ⟨S1024, .i1⟩
  | 8 => ⟨S1024, .i32⟩
  | 9 => ⟨S1024, .i32⟩
  | 10 => ⟨S_, .i32⟩
  | 11 => ⟨S1024, .i32⟩
  | 12 => ⟨S1024, .i1⟩
  | 13 => ⟨S1024, .i1⟩
  | 14 => ⟨S_, .i32⟩
  | 15 => ⟨S1024, .i32⟩
  | 16 => ⟨S1024, .i32⟩
  | 17 => ⟨S1024, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i1⟩
  | 32 => ⟨S_, .i32⟩
  | 33 => ⟨S_, .i1⟩
  | 34 => ⟨S1024, .i1⟩
  | 35 => ⟨S1024, .i1⟩
  | 36 => ⟨S1024, .i1⟩
  | 37 => ⟨S1024, .i32⟩
  | 38 => ⟨S1024, .i32⟩
  | 39 => ⟨S1024, .i32⟩
  | 40 => ⟨S1024x1, .i32⟩
  | 41 => ⟨S1024x1, .i32⟩
  | 42 => ⟨S1024x2, .i32⟩
  | 43 => ⟨S_, .i32⟩
  | 44 => ⟨S_, .i32⟩
  | 45 => ⟨S1024, .i32⟩
  | 46 => ⟨S1024, .i32⟩
  | 47 => ⟨S1024, .i32⟩
  | 48 => ⟨S_, .i32⟩
  | 49 => ⟨S1024, .i32⟩
  | 50 => ⟨S1024, .i1⟩
  | 51 => ⟨S1024, .i32⟩
  | 52 => ⟨S1024, .i32⟩
  | 53 => ⟨S_, .i32⟩
  | 54 => ⟨S1024, .i32⟩
  | 55 => ⟨S1024, .i1⟩
  | 56 => ⟨S1024, .i1⟩
  | 57 => ⟨S_, .i32⟩
  | 58 => ⟨S1024, .i32⟩
  | 59 => ⟨S1024, .i32⟩
  | 60 => ⟨S1024, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S1024, .i32⟩
  | 68 => ⟨S1024, .i32⟩
  | 69 => ⟨S_, .i32⟩
  | 70 => ⟨S1024, .i32⟩
  | 71 => ⟨S1024, .i1⟩
  | 72 => ⟨S_, .i32⟩
  | 73 => ⟨S1024, .i32⟩
  | 74 => ⟨S1024, .i1⟩
  | 75 => ⟨S_, .i32⟩
  | 76 => ⟨S_, .i1⟩
  | 77 => ⟨S1024, .i1⟩
  | 78 => ⟨S1024, .i1⟩
  | 79 => ⟨S1024, .i1⟩
  | 80 => ⟨S1024, .i32⟩
  | 81 => ⟨S1024, .i32⟩
  | 82 => ⟨S1024, .i32⟩
  | 83 => ⟨S1024x1, .i32⟩
  | 84 => ⟨S1024x1, .i32⟩
  | 85 => ⟨S1024x2, .i32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_call2_v2 : Ref sig .tc := ⟨.hbm, 28, rfl⟩
abbrev main_v13 : Ref sig .tc := ⟨.hbm, 29, rfl⟩
abbrev main_call3_v0 : Ref sig .tc := ⟨.hbm, 30, rfl⟩
abbrev main_call3_cst : Ref sig .tc := ⟨.hbm, 31, rfl⟩
abbrev main_call3_v1 : Ref sig .tc := ⟨.hbm, 32, rfl⟩
abbrev main_call3_v2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_call4_v0 : Ref sig .tc := ⟨.hbm, 60, rfl⟩
abbrev main_call4_v1 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_c_5 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_7 : Ref sig .tc := ⟨.hbm, 72, rfl⟩
abbrev main_v42 : Ref sig .tc := ⟨.hbm, 73, rfl⟩
abbrev main_v43 : Ref sig .tc := ⟨.hbm, 74, rfl⟩
abbrev main_c_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_c_11 : Ref sig .tc := ⟨.hbm, 88, rfl⟩
abbrev main_v54 : Ref sig .tc := ⟨.hbm, 89, rfl⟩
abbrev main_v55 : Ref sig .tc := ⟨.hbm, 90, rfl⟩
abbrev main_c_12 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_13 : Ref sig .tc := ⟨.hbm, 95, rfl⟩
abbrev main_v59 : Ref sig .tc := ⟨.hbm, 96, rfl⟩
abbrev main_v60 : Ref sig .tc := ⟨.hbm, 97, rfl⟩
abbrev main_c_14 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_15 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩
abbrev main_cst_17 : Ref sig .tc := ⟨.hbm, 112, rfl⟩
abbrev main_v72 : Ref sig .tc := ⟨.hbm, 113, rfl⟩
abbrev main_v73 : Ref sig .tc := ⟨.hbm, 114, rfl⟩
abbrev main_cst_18 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_values : Ref sig .tc := ⟨.hbm, 122, rfl⟩
abbrev main_indices : Ref sig .tc := ⟨.hbm, 123, rfl⟩
abbrev main_v80 : Ref sig .tc := ⟨.hbm, 124, rfl⟩
abbrev main_values_19 : Ref sig .tc := ⟨.hbm, 125, rfl⟩
abbrev main_indices_20 : Ref sig .tc := ⟨.hbm, 126, rfl⟩
abbrev main_v81 : Ref sig .tc := ⟨.hbm, 127, rfl⟩
abbrev main_c_21 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_c : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_0 : Ref sig .tc := ⟨.hbm, 142, rfl⟩
abbrev main_call5_v12 : Ref sig .tc := ⟨.hbm, 143, rfl⟩
abbrev main_call5_v13 : Ref sig .tc := ⟨.hbm, 144, rfl⟩
abbrev main_v82 : Ref sig .tc := ⟨.hbm, 145, rfl⟩
abbrev main_c_22 : Ref sig .tc := ⟨.hbm, 146, rfl⟩
abbrev main_call6_v0 : Ref sig .tc := ⟨.hbm, 147, rfl⟩
abbrev main_call6_c : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_c_1 : Ref sig .tc := ⟨.hbm, 154, rfl⟩
abbrev main_call6_v5 : Ref sig .tc := ⟨.hbm, 155, rfl⟩
abbrev main_call6_v6 : Ref sig .tc := ⟨.hbm, 156, rfl⟩
abbrev main_call6_c_2 : Ref sig .tc := ⟨.hbm, 157, rfl⟩
abbrev main_call6_v7 : Ref sig .tc := ⟨.hbm, 158, rfl⟩
abbrev main_call6_v8 : Ref sig .tc := ⟨.hbm, 159, rfl⟩
abbrev main_call6_c_3 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_v12 : Ref sig .tc := ⟨.hbm, 164, rfl⟩
abbrev main_call6_v13 : Ref sig .tc := ⟨.hbm, 165, rfl⟩
abbrev main_call6_v14 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_c_23 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_call7_v5 : Ref sig .tc := ⟨.hbm, 177, rfl⟩
abbrev main_call7_v6 : Ref sig .tc := ⟨.hbm, 178, rfl⟩
abbrev main_call7_v7 : Ref sig .tc := ⟨.hbm, 179, rfl⟩
abbrev main_call7_v8 : Ref sig .tc := ⟨.hbm, 180, rfl⟩
abbrev main_call7_c : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_c_0 : Ref sig .tc := ⟨.hbm, 185, rfl⟩
abbrev main_call7_v12 : Ref sig .tc := ⟨.hbm, 186, rfl⟩
abbrev main_call7_v13 : Ref sig .tc := ⟨.hbm, 187, rfl⟩
abbrev main_v87 : Ref sig .tc := ⟨.hbm, 188, rfl⟩
abbrev main_c_24 : Ref sig .tc := ⟨.hbm, 189, rfl⟩
abbrev main_call8_v0 : Ref sig .tc := ⟨.hbm, 190, rfl⟩
abbrev main_call8_c : Ref sig .tc := ⟨.hbm, 191, rfl⟩
abbrev main_call8_v1 : Ref sig .tc := ⟨.hbm, 192, rfl⟩
abbrev main_call8_c_0 : Ref sig .tc := ⟨.hbm, 193, rfl⟩
abbrev main_call8_v2 : Ref sig .tc := ⟨.hbm, 194, rfl⟩
abbrev main_call8_v3 : Ref sig .tc := ⟨.hbm, 195, rfl⟩
abbrev main_call8_v4 : Ref sig .tc := ⟨.hbm, 196, rfl⟩
abbrev main_call8_c_1 : Ref sig .tc := ⟨.hbm, 197, rfl⟩
abbrev main_call8_v5 : Ref sig .tc := ⟨.hbm, 198, rfl⟩
abbrev main_call8_v6 : Ref sig .tc := ⟨.hbm, 199, rfl⟩
abbrev main_call8_c_2 : Ref sig .tc := ⟨.hbm, 200, rfl⟩
abbrev main_call8_v7 : Ref sig .tc := ⟨.hbm, 201, rfl⟩
abbrev main_call8_v8 : Ref sig .tc := ⟨.hbm, 202, rfl⟩
abbrev main_call8_c_3 : Ref sig .tc := ⟨.hbm, 203, rfl⟩
abbrev main_call8_v9 : Ref sig .tc := ⟨.hbm, 204, rfl⟩
abbrev main_call8_v10 : Ref sig .tc := ⟨.hbm, 205, rfl⟩
abbrev main_call8_v11 : Ref sig .tc := ⟨.hbm, 206, rfl⟩
abbrev main_call8_v12 : Ref sig .tc := ⟨.hbm, 207, rfl⟩
abbrev main_call8_v13 : Ref sig .tc := ⟨.hbm, 208, rfl⟩
abbrev main_call8_v14 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩

abbrev nD : Nat := 1
abbrev τ : Topo := Topo.v7x

variable {F : FTy → Type} [FloatOps F]
-- ==== Proof.HostLines.lean ====
/- What the lines after the launched region compute, each call named as a function of its operands, and each
   stretch of lines read as that function of the buffers it takes. -/
module

public import proofs.«01_k».proof.Proof.Gen.KernelIdeal
public import proofs.«01_k».proof.Proof.Gen.KernelIdeal.Launch
public import proofs.«01_k».proof.Proof.Gen.KernelIdeal.Frame
public import Idealize.ShloMosaic.Lib.StableHlo.Run
public import Idealize.ShloMosaic.PureOps.Ideal

@[expose] public section

noncomputable section

namespace Cert.KernelIdeal.Lines

open Cert.KernelIdeal Cert.KernelIdeal.Gen Idealize.ShloMosaic Idealize.ShloMosaic.TcCoe Idealize.SL.Sem
  Idealize.ShloMosaic.StableHlo

/-- A buffer's contents at the ideal instance. -/
abbrev Arr (s : Shape) (e : EltTy) : Type := (⟨s, e⟩ : BufTy).Contents (Elt Ideal)

/-- A word at every place. -/
abbrev all (k : BitVec 32) : Arr S1024 .i32 := broadcastInDim S1024 ![] bcast_S_S1024 (constantI S_ 32 k)

/-- A word at every candidate. -/
abbrev allC (k : BitVec 32) : Arr S262144 .i32 := broadcastInDim S262144 ![] bcast_S_S262144 (constantI S_ 32 k)

/-- The divisor, one in place of zero. -/
def divisor (d : Arr S_ .i32) : Arr S_ .i32 := select (cmpi .eq d (constantI S_ 32 0#32)) (constantI S_ 32 1#32) d

/-- The remainder of the sign of the divisor. -/
def remainder (x : Arr S1024 .i32) (d : Arr S_ .i32) : Arr S1024 .i32 :=
  select
    (andi
      (cmpi .ne (cmpi .slt (Host.remsi x (broadcastInDim S1024 ![] bcast_S_S1024 (divisor d))) (all 0#32))
        (broadcastInDim S1024 ![] bcast_S_S1024 (cmpi .slt (divisor d) (constantI S_ 32 0#32))))
      (cmpi .ne (Host.remsi x (broadcastInDim S1024 ![] bcast_S_S1024 (divisor d))) (all 0#32)))
    (addi (Host.remsi x (broadcastInDim S1024 ![] bcast_S_S1024 (divisor d)))
      (broadcastInDim S1024 ![] bcast_S_S1024 (divisor d)))
    (Host.remsi x (broadcastInDim S1024 ![] bcast_S_S1024 (divisor d)))

/-- The quotient rounded down. -/
def quotient (x : Arr S1024 .i32) (d : Arr S_ .i32) : Arr S1024 .i32 :=
  select
    (andi
      (cmpi .ne (signi x) (broadcastInDim S1024 ![] bcast_S_S1024 (signi d)))
      (cmpi .ne (Host.remsi x (broadcastInDim S1024 ![] bcast_S_S1024 d)) (all 0#32)))
    (subi (Host.divsi x (broadcastInDim S1024 ![] bcast_S_S1024 d)) (all 1#32))
    (Host.divsi x (broadcastInDim S1024 ![] bcast_S_S1024 d))

/-- The words a window's first position and the offsets within it add to, one row per window. -/
def places (w : Arr S1024 .i32) : Arr S1024x256 .i32 :=
  addi
    (broadcastInDim S1024x256 ![0, 1] bcast_S1024x1_S1024x256_0_1
      (muli (broadcastInDim S1024x1 ![0] bcast_S1024_S1024x1_0 w)
        (broadcastInDim S1024x1 ![] bcast_S_S1024x1 (constantI S_ 32 256#32))))
    (broadcastInDim S1024x256 ![0, 1] bcast_S1x256_S1024x256_0_1
      (broadcastInDim S1x256 ![1] bcast_S256_S1x256_1 (iotaInDim S256 32 0)))

/-- The places in one row. -/
def flatPlaces (w : Arr S1024 .i32) : Arr S262144 .i32 := shapeCast S262144 (places w) shapeCasts_S1024x256_S262144

/-- The candidates' places, a negative one counted from the end. -/
def wrapped (p : Arr S262144 .i32) : Arr S262144x1 .i32 :=
  broadcastInDim S262144x1 ![0] bcast_S262144_S262144x1_0
    (select (cmpi .slt p (allC 0#32)) (addi p (allC 33554432#32)) p)

/-- Whether each candidate's place is one of the array's. -/
def within (q : Arr S262144x1 .i32) : Arr S262144 .i1 :=
  Host.reduce IntOp.andi
    (andi (cmpi .sge q (broadcastInDim S262144x1 ![] bcast_S_S262144x1 (constantI S_ 32 0#32)))
      (cmpi .sle q (broadcastInDim S262144x1 ![0, 1] bcast_S1x1_S262144x1_0_1
        (broadcastInDim S1x1 ![1] bcast_S1_S1x1_1 (constantI S1 32 33554431#32)))))
    (constantI S_ 1 1#1) reducesTo_S262144x1_S262144_d1 h_S_

/-- The elements at the candidates' places. -/
def take (x : Arr S33554432 .f32) (p : Arr S262144 .i32) : Arr S262144 .f32 :=
  select (within (wrapped p))
    (Host.gather gather_S33554432_S262144x1_S262144_n_0_n_n_0_1_1 x (wrapped p))
    (broadcastInDim S262144 ![] bcast_S_S262144 (constant (F := Ideal) S_ .f32 0x7FC00000#32))

/-- The windows of the greatest maxima, by the positions of those. -/
def windows (ix : Arr S1024 .i32) : Arr S1024 .i32 :=
  addi (muli (remainder ix (constantI S_ 32 2048#32)) (all 64#32)) (quotient ix (constantI S_ 32 2048#32))

/-- The windows in increasing order. -/
def sorted (w : Arr S1024 .i32) : Arr S1024 .i32 := Host.sort S1024 0 comparator_i32_d0 w

/-- The places of the candidates at the positions `ci`. -/
def found (p : Arr S262144 .i32) (ci : Arr S1024 .i32) : Arr S1024 .i32 :=
  Host.gather gather_S262144_S1024x1_S1024_n_0_n_n_0_1_1 p
    (broadcastInDim S1024x1 ![0] bcast_S1024_S1024x1_0
      (select (cmpi .slt ci (all 0#32)) (addi ci (all 262144#32)) ci))

/-- Two columns side by side. -/
def columns (a b : Arr S1024 .i32) : Arr S1024x2 .i32 :=
  concatenate S1024x2 1 [⟨S1024x1, broadcastInDim S1024x1 ![0] bcast_S1024_S1024x1_0 a⟩,
    ⟨S1024x1, broadcastInDim S1024x1 ![0] bcast_S1024_S1024x1_0 b⟩] concatenates_S1024x1_S1024x1_S1024x2_d1

/-- The row and column of each place. -/
def pairs (q : Arr S1024 .i32) : Arr S1024x2 .i32 :=
  columns (quotient q (constantI S_ 32 16384#32)) (remainder q (constantI S_ 32 16384#32))

/-- The greatest of the pooled values, in descending order: their positions. -/
def poolTop (x : Arr S131072 .f32) : Arr S1024 .i32 :=
  (Host.topK S1024 0 (FloatOps.cmpfTotal (F := Ideal) (φ := .f32) .gt) x sliceFits_S131072_S1024).2

/-- The greatest of the candidates, in descending order. -/
def candTop (x : Arr S262144 .f32) : Arr S1024 .f32 :=
  (Host.topK S1024 0 (FloatOps.cmpfTotal (F := Ideal) (φ := .f32) .gt) x sliceFits_S262144_S1024).1

/-- Their positions. -/
def candAt (x : Arr S262144 .f32) : Arr S1024 .i32 :=
  (Host.topK S1024 0 (FloatOps.cmpfTotal (F := Ideal) (φ := .f32) .gt) x sliceFits_S262144_S1024).2

variable (V : Valuation τ sig (Elt Ideal))

theorem line0_indices : after (hostOps1 (F := Ideal)) V (Proc.devRef .tc main_indices)
    = poolTop (shapeCast S131072 (V (Proc.devRef .tc main_v30_2)) shapeCasts_S64x2048_S131072) := by
  simp only [hostOps1, TRef.nullary, TRef.unary, TRef.binary, TRef.ternary, TRef.toBuf, TRef.ofBuf, cast_eq]
  after_results_simp <;> rfl

theorem line0_c_5 : after (hostOps1 (F := Ideal)) V (Proc.devRef .tc main_c_5)
    = constantI S_ 32 2048#32 := by
  simp only [hostOps1, TRef.nullary, TRef.unary, TRef.binary, TRef.ternary, TRef.toBuf, TRef.ofBuf, cast_eq]
  after_results_simp <;> rfl

theorem line1_v32 : after (hostOps1_1 (F := Ideal)) V (Proc.devRef .tc main_v32)
    = remainder (V (Proc.devRef .tc main_indices)) (V (Proc.devRef .tc main_c_5)) := by
  simp only [hostOps1_1, TRef.nullary, TRef.unary, TRef.binary, TRef.ternary, TRef.toBuf, TRef.ofBuf, cast_eq, main_call5_call0, divisor, remainder]
  after_results_simp <;> rfl

theorem line2_v34 : after (hostOps1_2 (F := Ideal)) V (Proc.devRef .tc main_v34)
    = muli (V (Proc.devRef .tc main_v32)) (all 64#32) := by
  simp only [hostOps1_2, TRef.nullary, TRef.unary, TRef.binary, TRef.ternary, TRef.toBuf, TRef.ofBuf, cast_eq]
  after_results_simp <;> rfl

theorem line2_c_7 : after (hostOps1_2 (F := Ideal)) V (Proc.devRef .tc main_c_7)
    = constantI S_ 32 2048#32 := by
  simp only [hostOps1_2, TRef.nullary, TRef.unary, TRef.binary, TRef.ternary, TRef.toBuf, TRef.ofBuf, cast_eq]
  after_results_simp <;> rfl

theorem line3_v35 : after (hostOps1_3 (F := Ideal)) V (Proc.devRef .tc main_v35)
    = quotient (V (Proc.devRef .tc main_indices)) (V (Proc.devRef .tc main_c_7)) := by
  simp only [hostOps1_3, TRef.nullary, TRef.unary, TRef.binary, TRef.ternary, TRef.toBuf, TRef.ofBuf, cast_eq]
  after_results_simp <;> rfl

theorem line4_v36 : after (hostOps1_4 (F := Ideal)) V (Proc.devRef .tc main_v36)
    = addi (V (Proc.devRef .tc main_v34)) (V (Proc.devRef .tc main_v35)) := by
  simp only [hostOps1_4, TRef.nullary, TRef.unary, TRef.binary, TRef.ternary, TRef.toBuf, TRef.ofBuf, cast_eq]
  after_results_simp <;> rfl

theorem line4_v37 : after (hostOps1_4 (F := Ideal)) V (Proc.devRef .tc main_v37)
    = shapeCast S33554432 (V (Proc.devRef .tc main_v30_0)) shapeCasts_S2048x16384_S33554432 := by
  simp only [hostOps1_4, TRef.nullary, TRef.unary, TRef.binary, TRef.ternary, TRef.toBuf, TRef.ofBuf, cast_eq]
  after_results_simp <;> rfl

theorem line5_v38 : after (hostOps1_5 (F := Ideal)) V (Proc.devRef .tc main_v38)
    = sorted (V (Proc.devRef .tc main_v36)) := by
  simp only [hostOps1_5, TRef.nullary, TRef.unary, TRef.binary, TRef.ternary, TRef.toBuf, TRef.ofBuf, cast_eq]
  after_results_simp <;> rfl

theorem line6_v46 : after (hostOps1_6 (F := Ideal)) V (Proc.devRef .tc main_v46)
    = places (V (Proc.devRef .tc main_v38)) := by
  simp only [hostOps1_6, TRef.nullary, TRef.unary, TRef.binary, TRef.ternary, TRef.toBuf, TRef.ofBuf, cast_eq]
  after_results_simp <;> rfl

theorem line6_v47 : after (hostOps1_6 (F := Ideal)) V (Proc.devRef .tc main_v47)
    = flatPlaces (V (Proc.devRef .tc main_v38)) := by
  simp only [hostOps1_6, TRef.nullary, TRef.unary, TRef.binary, TRef.ternary, TRef.toBuf, TRef.ofBuf, cast_eq]
  after_results_simp <;> rfl

theorem line7_v48 : after (hostOps1_7 (F := Ideal)) V (Proc.devRef .tc main_v48)
    = take (V (Proc.devRef .tc main_v37)) (V (Proc.devRef .tc main_v47)) := by
  simp only [hostOps1_7, TRef.nullary, TRef.unary, TRef.binary, TRef.ternary, TRef.toBuf, TRef.ofBuf, cast_eq, main_call8_call0, take, wrapped, within]
  after_results_simp <;> rfl

theorem line8_values_9 : after (hostOps1_8 (F := Ideal)) V (Proc.devRef .tc main_values_9)
    = candTop (V (Proc.devRef .tc main_v48)) := by
  simp only [hostOps1_8, TRef.nullary, TRef.unary, TRef.binary, TRef.ternary, TRef.toBuf, TRef.ofBuf, cast_eq]
  after_results_simp <;> rfl

theorem line8_v56 : after (hostOps1_8 (F := Ideal)) V (Proc.devRef .tc main_v56)
    = found (shapeCast S262144 (V (Proc.devRef .tc main_v46)) shapeCasts_S1024x256_S262144) (candAt (V (Proc.devRef .tc main_v48))) := by
  simp only [hostOps1_8, TRef.nullary, TRef.unary, TRef.binary, TRef.ternary, TRef.toBuf, TRef.ofBuf, cast_eq]
  after_results_simp <;> rfl

theorem line8_c_13 : after (hostOps1_8 (F := Ideal)) V (Proc.devRef .tc main_c_13)
    = constantI S_ 32 16384#32 := by
  simp only [hostOps1_8, TRef.nullary, TRef.unary, TRef.binary, TRef.ternary, TRef.toBuf, TRef.ofBuf, cast_eq]
  after_results_simp <;> rfl

theorem line9_v57 : after (hostOps1_9 (F := Ideal)) V (Proc.devRef .tc main_v57)
    = quotient (V (Proc.devRef .tc main_v56)) (V (Proc.devRef .tc main_c_13)) := by
  simp only [hostOps1_9, TRef.nullary, TRef.unary, TRef.binary, TRef.ternary, TRef.toBuf, TRef.ofBuf, cast_eq]
  after_results_simp <;> rfl

theorem line10_c_14 : after (hostOps1_10 (F := Ideal)) V (Proc.devRef .tc main_c_14)
    = constantI S_ 32 16384#32 := by
  simp only [hostOps1_10, TRef.nullary, TRef.unary, TRef.binary, TRef.ternary, TRef.toBuf, TRef.ofBuf, cast_eq]
  after_results_simp <;> rfl

theorem line11_v58 : after (hostOps1_11 (F := Ideal)) V (Proc.devRef .tc main_v58)
    = remainder (V (Proc.devRef .tc main_v56)) (V (Proc.devRef .tc main_c_14)) := by
  simp only [hostOps1_11, TRef.nullary, TRef.unary, TRef.binary, TRef.ternary, TRef.toBuf, TRef.ofBuf, cast_eq, main_call10_call0, divisor, remainder]
  after_results_simp <;> rfl

theorem line12_v61 : after (hostOps1_12 (F := Ideal)) V (Proc.devRef .tc main_v61)
    = columns (V (Proc.devRef .tc main_v57)) (V (Proc.devRef .tc main_v58)) := by
  simp only [hostOps1_12, TRef.nullary, TRef.unary, TRef.binary, TRef.ternary, TRef.toBuf, TRef.ofBuf, cast_eq]
  after_results_simp <;> rfl

theorem line12_indices_16 : after (hostOps1_12 (F := Ideal)) V (Proc.devRef .tc main_indices_16)
    = poolTop (Host.negf (F := Ideal) (φ := .f32) (shapeCast S131072 (V (Proc.devRef .tc main_v30_3)) shapeCasts_S64x2048_S131072)) := by
  simp only [hostOps1_12, TRef.nullary, TRef.unary, TRef.binary, TRef.ternary, TRef.toBuf, TRef.ofBuf, cast_eq]
  after_results_simp <;> rfl

theorem line12_c_17 : after (hostOps1_12 (F := Ideal)) V (Proc.devRef .tc main_c_17)
    = constantI S_ 32 2048#32 := by
  simp only [hostOps1_12, TRef.nullary, TRef.unary, TRef.binary, TRef.ternary, TRef.toBuf, TRef.ofBuf, cast_eq]
  after_results_simp <;> rfl

theorem line13_v64 : after (hostOps1_13 (F := Ideal)) V (Proc.devRef .tc main_v64)
    = remainder (V (Proc.devRef .tc main_indices_16)) (V (Proc.devRef .tc main_c_17)) := by
  simp only [hostOps1_13, TRef.nullary, TRef.unary, TRef.binary, TRef.ternary, TRef.toBuf, TRef.ofBuf, cast_eq, main_call11_call0, divisor, remainder]
  after_results_simp <;> rfl

theorem line14_v66 : after (hostOps1_14 (F := Ideal)) V (Proc.devRef .tc main_v66)
    = muli (V (Proc.devRef .tc main_v64)) (all 64#32) := by
  simp only [hostOps1_14, TRef.nullary, TRef.unary, TRef.binary, TRef.ternary, TRef.toBuf, TRef.ofBuf, cast_eq]
  after_results_simp <;> rfl

theorem line14_c_19 : after (hostOps1_14 (F := Ideal)) V (Proc.devRef .tc main_c_19)
    = constantI S_ 32 2048#32 := by
  simp only [hostOps1_14, TRef.nullary, TRef.unary, TRef.binary, TRef.ternary, TRef.toBuf, TRef.ofBuf, cast_eq]
  after_results_simp <;> rfl

theorem line15_v67 : after (hostOps1_15 (F := Ideal)) V (Proc.devRef .tc main_v67)
    = quotient (V (Proc.devRef .tc main_indices_16)) (V (Proc.devRef .tc main_c_19)) := by
  simp only [hostOps1_15, TRef.nullary, TRef.unary, TRef.binary, TRef.ternary, TRef.toBuf, TRef.ofBuf, cast_eq]
  after_results_simp <;> rfl

theorem line16_v68 : after (hostOps1_16 (F := Ideal)) V (Proc.devRef .tc main_v68)
    = addi (V (Proc.devRef .tc main_v66)) (V (Proc.devRef .tc main_v67)) := by
  simp only [hostOps1_16, TRef.nullary, TRef.unary, TRef.binary, TRef.ternary, TRef.toBuf, TRef.ofBuf, cast_eq]
  after_results_simp <;> rfl

theorem line16_v69 : after (hostOps1_16 (F := Ideal)) V (Proc.devRef .tc main_v69)
    = shapeCast S33554432 (V (Proc.devRef .tc main_v30_1)) shapeCasts_S2048x16384_S33554432 := by
  simp only [hostOps1_16, TRef.nullary, TRef.unary, TRef.binary, TRef.ternary, TRef.toBuf, TRef.ofBuf, cast_eq]
  after_results_simp <;> rfl

theorem line17_v70 : after (hostOps1_17 (F := Ideal)) V (Proc.devRef .tc main_v70)
    = sorted (V (Proc.devRef .tc main_v68)) := by
  simp only [hostOps1_17, TRef.nullary, TRef.unary, TRef.binary, TRef.ternary, TRef.toBuf, TRef.ofBuf, cast_eq]
  after_results_simp <;> rfl

theorem line18_v78 : after (hostOps1_18 (F := Ideal)) V (Proc.devRef .tc main_v78)
    = places (V (Proc.devRef .tc main_v70)) := by
  simp only [hostOps1_18, TRef.nullary, TRef.unary, TRef.binary, TRef.ternary, TRef.toBuf, TRef.ofBuf, cast_eq]
  after_results_simp <;> rfl

theorem line18_v79 : after (hostOps1_18 (F := Ideal)) V (Proc.devRef .tc main_v79)
    = flatPlaces (V (Proc.devRef .tc main_v70)) := by
  simp only [hostOps1_18, TRef.nullary, TRef.unary, TRef.binary, TRef.ternary, TRef.toBuf, TRef.ofBuf, cast_eq]
  after_results_simp <;> rfl

theorem line19_v80 : after (hostOps1_19 (F := Ideal)) V (Proc.devRef .tc main_v80)
    = take (V (Proc.devRef .tc main_v69)) (V (Proc.devRef .tc main_v79)) := by
  simp only [hostOps1_19, TRef.nullary, TRef.unary, TRef.binary, TRef.ternary, TRef.toBuf, TRef.ofBuf, cast_eq, main_call14_call0, take, wrapped, within]
  after_results_simp <;> rfl

theorem line20_values_21 : after (hostOps1_20 (F := Ideal)) V (Proc.devRef .tc main_values_21)
    = candTop (Host.negf (F := Ideal) (φ := .f32) (V (Proc.devRef .tc main_v80))) := by
  simp only [hostOps1_20, TRef.nullary, TRef.unary, TRef.binary, TRef.ternary, TRef.toBuf, TRef.ofBuf, cast_eq]
  after_results_simp <;> rfl

theorem line20_v89 : after (hostOps1_20 (F := Ideal)) V (Proc.devRef .tc main_v89)
    = found (shapeCast S262144 (V (Proc.devRef .tc main_v78)) shapeCasts_S1024x256_S262144) (candAt (Host.negf (F := Ideal) (φ := .f32) (V (Proc.devRef .tc main_v80)))) := by
  simp only [hostOps1_20, TRef.nullary, TRef.unary, TRef.binary, TRef.ternary, TRef.toBuf, TRef.ofBuf, cast_eq]
  after_results_simp <;> rfl

theorem line20_c_25 : after (hostOps1_20 (F := Ideal)) V (Proc.devRef .tc main_c_25)
    = constantI S_ 32 16384#32 := by
  simp only [hostOps1_20, TRef.nullary, TRef.unary, TRef.binary, TRef.ternary, TRef.toBuf, TRef.ofBuf, cast_eq]
  after_results_simp <;> rfl

theorem line21_v90 : after (hostOps1_21 (F := Ideal)) V (Proc.devRef .tc main_v90)
    = quotient (V (Proc.devRef .tc main_v89)) (V (Proc.devRef .tc main_c_25)) := by
  simp only [hostOps1_21, TRef.nullary, TRef.unary, TRef.binary, TRef.ternary, TRef.toBuf, TRef.ofBuf, cast_eq]
  after_results_simp <;> rfl

theorem line22_c_26 : after (hostOps1_22 (F := Ideal)) V (Proc.devRef .tc main_c_26)
    = constantI S_ 32 16384#32 := by
  simp only [hostOps1_22, TRef.nullary, TRef.unary, TRef.binary, TRef.ternary, TRef.toBuf, TRef.ofBuf, cast_eq]
  after_results_simp <;> rfl

theorem line23_v91 : after (hostOps1_23 (F := Ideal)) V (Proc.devRef .tc main_v91)
    = remainder (V (Proc.devRef .tc main_v89)) (V (Proc.devRef .tc main_c_26)) := by
  simp only [hostOps1_23, TRef.nullary, TRef.unary, TRef.binary, TRef.ternary, TRef.toBuf, TRef.ofBuf, cast_eq, main_call16_call0, divisor, remainder]
  after_results_simp <;> rfl

theorem line24_v94 : after (hostOps1_24 (F := Ideal)) V (Proc.devRef .tc main_v94)
    = columns (V (Proc.devRef .tc main_v90)) (V (Proc.devRef .tc main_v91)) := by
  simp only [hostOps1_24, TRef.nullary, TRef.unary, TRef.binary, TRef.ternary, TRef.toBuf, TRef.ofBuf, cast_eq]
  after_results_simp <;> rfl

theorem line24_v95 : after (hostOps1_24 (F := Ideal)) V (Proc.devRef .tc main_v95)
    = Host.negf (F := Ideal) (φ := .f32) (V (Proc.devRef .tc main_values_21)) := by
  simp only [hostOps1_24, TRef.nullary, TRef.unary, TRef.binary, TRef.ternary, TRef.toBuf, TRef.ofBuf, cast_eq]
  after_results_simp <;> rfl

end Cert.KernelIdeal.Lines

end
-- ==== Proof.PrefixLines.lean ====
/- What the lines before the launched region compute: the edges' flags, the embeddings' first rows and the
   rows' lengths, each as a function of the arguments. -/
module

public import proofs.«01_k».proof.Proof.HostLines

@[expose] public section

noncomputable section

namespace Cert.KernelIdeal.Lines

open Cert.KernelIdeal Cert.KernelIdeal.Gen Idealize.ShloMosaic Idealize.ShloMosaic.TcCoe Idealize.SL.Sem
  Idealize.ShloMosaic.StableHlo

/-- The edges' first ends. -/
def edgeRows (e : Arr S2x262144 .i32) : Arr S262144 .i32 :=
  shapeCast S262144 (extractStridedSlice S1x262144 ![0, 0] e slices_S2x262144_S1x262144_0_0) shapeCasts_S1x262144_S262144

/-- The edges' second ends. -/
def edgeColumns (e : Arr S2x262144 .i32) : Arr S262144 .i32 :=
  shapeCast S262144 (extractStridedSlice S1x262144 ![1, 0] e slices_S2x262144_S1x262144_1_0) shapeCasts_S1x262144_S262144

/-- The edges' flat places, one past the last for an edge from outside the batch. -/
def edgeKeys (e : Arr S2x262144 .i32) : Arr S262144 .i32 :=
  select (cmpi .slt (edgeRows e) (allC 2048#32)) (addi (muli (edgeRows e) (allC 16384#32)) (edgeColumns e)) (allC 33554432#32)

/-- How many keys name each flat place. -/
def keyCounts (k : Arr S262144 .i32) : Arr S33554432 .f32 :=
  Host.scatterAdd scatter_S33554432_S262144x1_S262144_n_0_0_1
    (broadcastInDim S33554432 ![] bcast_S_S33554432 (constant (F := Ideal) S_ .f32 0x00000000#32))
    (broadcastInDim S262144x1 ![0] bcast_S262144_S262144x1_0
      (select (cmpi .slt k (allC 0#32)) (addi k (allC 33554432#32)) k))
    (broadcastInDim S262144 ![] bcast_S_S262144 (constant (F := Ideal) S_ .f32 0x3F800000#32))

/-- How many edges join each pair. -/
def edgeCounts (e : Arr S2x262144 .i32) : Arr S2048x16384 .f32 :=
  shapeCast S2048x16384 (keyCounts (edgeKeys e)) shapeCasts_S33554432_S2048x16384

/-- The batch's rows. -/
def firstRows (x : Arr S16384x256 .f32) : Arr S2048x256 .f32 :=
  extractStridedSlice S2048x256 ![0, 0] x slices_S16384x256_S2048x256_0_0

/-- The batch's rows' lengths. -/
def fewLengths (x : Arr S2048x256 .f32) : Arr S2048x1 .f32 :=
  Host.sqrt (F := Ideal) (φ := .f32) (broadcastInDim S2048x1 ![0] bcast_S2048_S2048x1_0
    (Host.reduceAdd (F := Ideal) (φ := .f32) (mulf x x) (constant (F := Ideal) S_ .f32 0x00000000#32) reducesTo_S2048x256_S2048_d1 h_S_))

/-- All rows' lengths. -/
def allLengths (x : Arr S16384x256 .f32) : Arr S16384x1 .f32 :=
  Host.sqrt (F := Ideal) (φ := .f32) (broadcastInDim S16384x1 ![0] bcast_S16384_S16384x1_0
    (Host.reduceAdd (F := Ideal) (φ := .f32) (mulf x x) (constant (F := Ideal) S_ .f32 0x00000000#32) reducesTo_S16384x256_S16384_d1 h_S_))

variable (V : Valuation τ sig (Elt Ideal))

/-- What stretch 0 writes. -/
abbrev wrote0 : List (Ref sig .tc) := [main_v0, main_v1, main_v2, main_v3, main_c, main_v4, main_v5, main_c_0, main_v6, main_v7, main_v8, main_c_1]
theorem hostOps0_wrote : (hostOps0 (F := Ideal)).Forall fun op => op.writes ⊆ (wrote0.map (Proc.devRef (τ := τ) .tc)).toFinset :=
  forall_writes_sub_of_map rfl

/-- What stretch 0_1 writes. -/
abbrev wrote0_1 : List (Ref sig .tc) := [main_call0_v0, main_call0_v1, main_v9]
theorem hostOps0_1_wrote : (hostOps0_1 (F := Ideal)).Forall fun op => op.writes ⊆ (wrote0_1.map (Proc.devRef (τ := τ) .tc)).toFinset :=
  forall_writes_sub_of_map rfl

/-- What stretch 0_2 writes. -/
abbrev wrote0_2 : List (Ref sig .tc) := [main_cst, main_v10, main_c_2, main_v11, main_v12, main_c_3, main_v13, main_v14, main_v15, main_v16, main_cst_4, main_v17, main_v18, main_v19, main_v20]
theorem hostOps0_2_wrote : (hostOps0_2 (F := Ideal)).Forall fun op => op.writes ⊆ (wrote0_2.map (Proc.devRef (τ := τ) .tc)).toFinset :=
  forall_writes_sub_of_map rfl

/-- What stretch 0_3 writes. -/
abbrev wrote0_3 : List (Ref sig .tc) := [main_call1_v0, main_call1_cst, main_call1_v1, main_call1_v2, main_v21]
theorem hostOps0_3_wrote : (hostOps0_3 (F := Ideal)).Forall fun op => op.writes ⊆ (wrote0_3.map (Proc.devRef (τ := τ) .tc)).toFinset :=
  forall_writes_sub_of_map rfl

/-- What stretch 0_4 writes. -/
abbrev wrote0_4 : List (Ref sig .tc) := [main_call2_v0, main_call2_cst, main_call2_v1, main_call2_v2, main_v22]
theorem hostOps0_4_wrote : (hostOps0_4 (F := Ideal)).Forall fun op => op.writes ⊆ (wrote0_4.map (Proc.devRef (τ := τ) .tc)).toFinset :=
  forall_writes_sub_of_map rfl

/-- What stretch 0_5 writes. -/
abbrev wrote0_5 : List (Ref sig .tc) := [main_v23, main_v24]
theorem hostOps0_5_wrote : (hostOps0_5 (F := Ideal)).Forall fun op => op.writes ⊆ (wrote0_5.map (Proc.devRef (τ := τ) .tc)).toFinset :=
  forall_writes_sub_of_map rfl

/-- What stretch 0_6 writes. -/
abbrev wrote0_6 : List (Ref sig .tc) := [main_call3_v0, main_call3_cst, main_call3_v1, main_call3_v2, main_v25]
theorem hostOps0_6_wrote : (hostOps0_6 (F := Ideal)).Forall fun op => op.writes ⊆ (wrote0_6.map (Proc.devRef (τ := τ) .tc)).toFinset :=
  forall_writes_sub_of_map rfl

/-- What stretch 0_7 writes. -/
abbrev wrote0_7 : List (Ref sig .tc) := [main_call4_v0, main_call4_cst, main_call4_v1, main_call4_v2, main_v26]
theorem hostOps0_7_wrote : (hostOps0_7 (F := Ideal)).Forall fun op => op.writes ⊆ (wrote0_7.map (Proc.devRef (τ := τ) .tc)).toFinset :=
  forall_writes_sub_of_map rfl

/-- What stretch 0_8 writes. -/
abbrev wrote0_8 : List (Ref sig .tc) := [main_v27, main_v28, main_v29]
theorem hostOps0_8_wrote : (hostOps0_8 (F := Ideal)).Forall fun op => op.writes ⊆ (wrote0_8.map (Proc.devRef (τ := τ) .tc)).toFinset :=
  forall_writes_sub_of_map rfl

theorem pre0_v5 : after (hostOps0 (F := Ideal)) V (Proc.devRef .tc main_v5)
    = cmpi .slt (edgeRows (V (Proc.devRef .tc main_arg2))) (allC 2048#32) := by
  simp only [hostOps0, TRef.nullary, TRef.unary, TRef.binary, TRef.ternary, TRef.toBuf, TRef.ofBuf, cast_eq]
  after_results_simp <;> rfl

theorem pre0_v8 : after (hostOps0 (F := Ideal)) V (Proc.devRef .tc main_v8)
    = addi (muli (edgeRows (V (Proc.devRef .tc main_arg2))) (allC 16384#32)) (edgeColumns (V (Proc.devRef .tc main_arg2))) := by
  simp only [hostOps0, TRef.nullary, TRef.unary, TRef.binary, TRef.ternary, TRef.toBuf, TRef.ofBuf, cast_eq]
  after_results_simp <;> rfl

theorem pre0_c_1 : after (hostOps0 (F := Ideal)) V (Proc.devRef .tc main_c_1)
    = constantI S_ 32 33554432#32 := by
  simp only [hostOps0, TRef.nullary, TRef.unary, TRef.binary, TRef.ternary, TRef.toBuf, TRef.ofBuf, cast_eq]
  after_results_simp <;> rfl

theorem pre0_1_v9 : after (hostOps0_1 (F := Ideal)) V (Proc.devRef .tc main_v9)
    = select (V (Proc.devRef .tc main_v5)) (V (Proc.devRef .tc main_v8)) (broadcastInDim S262144 ![] bcast_S_S262144 (V (Proc.devRef .tc main_c_1))) := by
  simp only [hostOps0_1, TRef.nullary, TRef.unary, TRef.binary, TRef.ternary, TRef.toBuf, TRef.ofBuf, cast_eq]
  after_results_simp <;> rfl

theorem pre0_2_v19 : after (hostOps0_2 (F := Ideal)) V (Proc.devRef .tc main_v19)
    = shapeCast S2048x16384 (keyCounts (V (Proc.devRef .tc main_v9))) shapeCasts_S33554432_S2048x16384 := by
  simp only [hostOps0_2, TRef.nullary, TRef.unary, TRef.binary, TRef.ternary, TRef.toBuf, TRef.ofBuf, cast_eq]
  after_results_simp <;> rfl

theorem pre0_2_v20 : after (hostOps0_2 (F := Ideal)) V (Proc.devRef .tc main_v20)
    = firstRows (V (Proc.devRef .tc main_arg0)) := by
  simp only [hostOps0_2, TRef.nullary, TRef.unary, TRef.binary, TRef.ternary, TRef.toBuf, TRef.ofBuf, cast_eq]
  after_results_simp <;> rfl

theorem pre0_3_v21 : after (hostOps0_3 (F := Ideal)) V (Proc.devRef .tc main_v21)
    = fewLengths (V (Proc.devRef .tc main_v20)) := by
  simp only [hostOps0_3, TRef.nullary, TRef.unary, TRef.binary, TRef.ternary, TRef.toBuf, TRef.ofBuf, cast_eq]
  after_results_simp <;> rfl

theorem pre0_4_v22 : after (hostOps0_4 (F := Ideal)) V (Proc.devRef .tc main_v22)
    = allLengths (V (Proc.devRef .tc main_arg0)) := by
  simp only [hostOps0_4, TRef.nullary, TRef.unary, TRef.binary, TRef.ternary, TRef.toBuf, TRef.ofBuf, cast_eq]
  after_results_simp <;> rfl

theorem pre0_5_v23 : after (hostOps0_5 (F := Ideal)) V (Proc.devRef .tc main_v23)
    = shapeCast S1x16384 (V (Proc.devRef .tc main_v22)) shapeCasts_S16384x1_S1x16384 := by
  simp only [hostOps0_5, TRef.nullary, TRef.unary, TRef.binary, TRef.ternary, TRef.toBuf, TRef.ofBuf, cast_eq]
  after_results_simp <;> rfl

theorem pre0_5_v24 : after (hostOps0_5 (F := Ideal)) V (Proc.devRef .tc main_v24)
    = firstRows (V (Proc.devRef .tc main_arg1)) := by
  simp only [hostOps0_5, TRef.nullary, TRef.unary, TRef.binary, TRef.ternary, TRef.toBuf, TRef.ofBuf, cast_eq]
  after_results_simp <;> rfl

theorem pre0_6_v25 : after (hostOps0_6 (F := Ideal)) V (Proc.devRef .tc main_v25)
    = fewLengths (V (Proc.devRef .tc main_v24)) := by
  simp only [hostOps0_6, TRef.nullary, TRef.unary, TRef.binary, TRef.ternary, TRef.toBuf, TRef.ofBuf, cast_eq]
  after_results_simp <;> rfl

theorem pre0_7_v26 : after (hostOps0_7 (F := Ideal)) V (Proc.devRef .tc main_v26)
    = allLengths (V (Proc.devRef .tc main_arg1)) := by
  simp only [hostOps0_7, TRef.nullary, TRef.unary, TRef.binary, TRef.ternary, TRef.toBuf, TRef.ofBuf, cast_eq]
  after_results_simp <;> rfl

theorem pre0_8_v27 : after (hostOps0_8 (F := Ideal)) V (Proc.devRef .tc main_v27)
    = shapeCast S1x16384 (V (Proc.devRef .tc main_v26)) shapeCasts_S16384x1_S1x16384 := by
  simp only [hostOps0_8, TRef.nullary, TRef.unary, TRef.binary, TRef.ternary, TRef.toBuf, TRef.ofBuf, cast_eq]
  after_results_simp <;> rfl

theorem pre0_8_v28 : after (hostOps0_8 (F := Ideal)) V (Proc.devRef .tc main_v28)
    = firstRows (V (Proc.devRef .tc main_arg0)) := by
  simp only [hostOps0_8, TRef.nullary, TRef.unary, TRef.binary, TRef.ternary, TRef.toBuf, TRef.ofBuf, cast_eq]
  after_results_simp <;> rfl

theorem pre0_8_v29 : after (hostOps0_8 (F := Ideal)) V (Proc.devRef .tc main_v29)
    = firstRows (V (Proc.devRef .tc main_arg1)) := by
  simp only [hostOps0_8, TRef.nullary, TRef.unary, TRef.binary, TRef.ternary, TRef.toBuf, TRef.ofBuf, cast_eq]
  after_results_simp <;> rfl

def W0 : Valuation τ sig (Elt Ideal) := after (hostOps0 (F := Ideal)) V
def W1 : Valuation τ sig (Elt Ideal) := after (hostOps0_1 (F := Ideal)) (W0 V)
def W2 : Valuation τ sig (Elt Ideal) := after (hostOps0_2 (F := Ideal)) (W1 V)
def W3 : Valuation τ sig (Elt Ideal) := after (hostOps0_3 (F := Ideal)) (W2 V)
def W4 : Valuation τ sig (Elt Ideal) := after (hostOps0_4 (F := Ideal)) (W3 V)
def W5 : Valuation τ sig (Elt Ideal) := after (hostOps0_5 (F := Ideal)) (W4 V)
def W6 : Valuation τ sig (Elt Ideal) := after (hostOps0_6 (F := Ideal)) (W5 V)
def W7 : Valuation τ sig (Elt Ideal) := after (hostOps0_7 (F := Ideal)) (W6 V)
def W8 : Valuation τ sig (Elt Ideal) := after (hostOps0_8 (F := Ideal)) (W7 V)

theorem all_before : after (List.flatten [hostOps0 (F := Ideal), hostOps0_1 (F := Ideal), hostOps0_2 (F := Ideal), hostOps0_3 (F := Ideal), hostOps0_4 (F := Ideal), hostOps0_5 (F := Ideal), hostOps0_6 (F := Ideal), hostOps0_7 (F := Ideal), hostOps0_8 (F := Ideal)]) V = W8 V := by
  simp only [List.flatten_cons, List.flatten_nil, List.append_nil, after_append]
  rfl

theorem w0_arg0 : W0 V (Proc.devRef .tc main_arg0) = (V (Proc.devRef .tc main_arg0)) :=
  (after_of_writes_sub (r := main_arg0) hostOps0 _ hostOps0_wrote (by decide +kernel))
theorem w1_arg0 : W1 V (Proc.devRef .tc main_arg0) = (V (Proc.devRef .tc main_arg0)) :=
  (after_of_writes_sub (r := main_arg0) hostOps0_1 _ hostOps0_1_wrote (by decide +kernel)).trans (w0_arg0 V)
theorem w2_arg0 : W2 V (Proc.devRef .tc main_arg0) = (V (Proc.devRef .tc main_arg0)) :=
  (after_of_writes_sub (r := main_arg0) hostOps0_2 _ hostOps0_2_wrote (by decide +kernel)).trans (w1_arg0 V)
theorem w3_arg0 : W3 V (Proc.devRef .tc main_arg0) = (V (Proc.devRef .tc main_arg0)) :=
  (after_of_writes_sub (r := main_arg0) hostOps0_3 _ hostOps0_3_wrote (by decide +kernel)).trans (w2_arg0 V)
theorem w4_arg0 : W4 V (Proc.devRef .tc main_arg0) = (V (Proc.devRef .tc main_arg0)) :=
  (after_of_writes_sub (r := main_arg0) hostOps0_4 _ hostOps0_4_wrote (by decide +kernel)).trans (w3_arg0 V)
theorem w5_arg0 : W5 V (Proc.devRef .tc main_arg0) = (V (Proc.devRef .tc main_arg0)) :=
  (after_of_writes_sub (r := main_arg0) hostOps0_5 _ hostOps0_5_wrote (by decide +kernel)).trans (w4_arg0 V)
theorem w6_arg0 : W6 V (Proc.devRef .tc main_arg0) = (V (Proc.devRef .tc main_arg0)) :=
  (after_of_writes_sub (r := main_arg0) hostOps0_6 _ hostOps0_6_wrote (by decide +kernel)).trans (w5_arg0 V)
theorem w7_arg0 : W7 V (Proc.devRef .tc main_arg0) = (V (Proc.devRef .tc main_arg0)) :=
  (after_of_writes_sub (r := main_arg0) hostOps0_7 _ hostOps0_7_wrote (by decide +kernel)).trans (w6_arg0 V)
theorem w0_arg1 : W0 V (Proc.devRef .tc main_arg1) = (V (Proc.devRef .tc main_arg1)) :=
  (after_of_writes_sub (r := main_arg1) hostOps0 _ hostOps0_wrote (by decide +kernel))
theorem w1_arg1 : W1 V (Proc.devRef .tc main_arg1) = (V (Proc.devRef .tc main_arg1)) :=
  (after_of_writes_sub (r := main_arg1) hostOps0_1 _ hostOps0_1_wrote (by decide +kernel)).trans (w0_arg1 V)
theorem w2_arg1 : W2 V (Proc.devRef .tc main_arg1) = (V (Proc.devRef .tc main_arg1)) :=
  (after_of_writes_sub (r := main_arg1) hostOps0_2 _ hostOps0_2_wrote (by decide +kernel)).trans (w1_arg1 V)
theorem w3_arg1 : W3 V (Proc.devRef .tc main_arg1) = (V (Proc.devRef .tc main_arg1)) :=
  (after_of_writes_sub (r := main_arg1) hostOps0_3 _ hostOps0_3_wrote (by decide +kernel)).trans (w2_arg1 V)
theorem w4_arg1 : W4 V (Proc.devRef .tc main_arg1) = (V (Proc.devRef .tc main_arg1)) :=
  (after_of_writes_sub (r := main_arg1) hostOps0_4 _ hostOps0_4_wrote (by decide +kernel)).trans (w3_arg1 V)
theorem w5_arg1 : W5 V (Proc.devRef .tc main_arg1) = (V (Proc.devRef .tc main_arg1)) :=
  (after_of_writes_sub (r := main_arg1) hostOps0_5 _ hostOps0_5_wrote (by decide +kernel)).trans (w4_arg1 V)
theorem w6_arg1 : W6 V (Proc.devRef .tc main_arg1) = (V (Proc.devRef .tc main_arg1)) :=
  (after_of_writes_sub (r := main_arg1) hostOps0_6 _ hostOps0_6_wrote (by decide +kernel)).trans (w5_arg1 V)
theorem w7_arg1 : W7 V (Proc.devRef .tc main_arg1) = (V (Proc.devRef .tc main_arg1)) :=
  (after_of_writes_sub (r := main_arg1) hostOps0_7 _ hostOps0_7_wrote (by decide +kernel)).trans (w6_arg1 V)
theorem w0_v5 : W0 V (Proc.devRef .tc main_v5) = cmpi .slt (edgeRows (V (Proc.devRef .tc main_arg2))) (allC 2048#32) :=
  (pre0_v5 V)
theorem w0_v8 : W0 V (Proc.devRef .tc main_v8) = addi (muli (edgeRows (V (Proc.devRef .tc main_arg2))) (allC 16384#32)) (edgeColumns (V (Proc.devRef .tc main_arg2))) :=
  (pre0_v8 V)
theorem w0_c_1 : W0 V (Proc.devRef .tc main_c_1) = constantI S_ 32 33554432#32 :=
  (pre0_c_1 V)
theorem w1_v9 : W1 V (Proc.devRef .tc main_v9) = edgeKeys (V (Proc.devRef .tc main_arg2)) :=
  (pre0_1_v9 (W0 V)).trans (by rw [w0_v5 V, w0_v8 V, w0_c_1 V] <;> rfl)
theorem w2_v19 : W2 V (Proc.devRef .tc main_v19) = edgeCounts (V (Proc.devRef .tc main_arg2)) :=
  (pre0_2_v19 (W1 V)).trans (by rw [w1_v9 V] <;> rfl)
theorem w3_v19 : W3 V (Proc.devRef .tc main_v19) = edgeCounts (V (Proc.devRef .tc main_arg2)) :=
  (after_of_writes_sub (r := main_v19) hostOps0_3 _ hostOps0_3_wrote (by decide +kernel)).trans (w2_v19 V)
theorem w4_v19 : W4 V (Proc.devRef .tc main_v19) = edgeCounts (V (Proc.devRef .tc main_arg2)) :=
  (after_of_writes_sub (r := main_v19) hostOps0_4 _ hostOps0_4_wrote (by decide +kernel)).trans (w3_v19 V)
theorem w5_v19 : W5 V (Proc.devRef .tc main_v19) = edgeCounts (V (Proc.devRef .tc main_arg2)) :=
  (after_of_writes_sub (r := main_v19) hostOps0_5 _ hostOps0_5_wrote (by decide +kernel)).trans (w4_v19 V)
theorem w6_v19 : W6 V (Proc.devRef .tc main_v19) = edgeCounts (V (Proc.devRef .tc main_arg2)) :=
  (after_of_writes_sub (r := main_v19) hostOps0_6 _ hostOps0_6_wrote (by decide +kernel)).trans (w5_v19 V)
theorem w7_v19 : W7 V (Proc.devRef .tc main_v19) = edgeCounts (V (Proc.devRef .tc main_arg2)) :=
  (after_of_writes_sub (r := main_v19) hostOps0_7 _ hostOps0_7_wrote (by decide +kernel)).trans (w6_v19 V)
theorem w8_v19 : W8 V (Proc.devRef .tc main_v19) = edgeCounts (V (Proc.devRef .tc main_arg2)) :=
  (after_of_writes_sub (r := main_v19) hostOps0_8 _ hostOps0_8_wrote (by decide +kernel)).trans (w7_v19 V)
theorem w2_v20 : W2 V (Proc.devRef .tc main_v20) = firstRows (V (Proc.devRef .tc main_arg0)) :=
  (pre0_2_v20 (W1 V)).trans (by rw [w1_arg0 V] <;> rfl)
theorem w3_v21 : W3 V (Proc.devRef .tc main_v21) = fewLengths (firstRows (V (Proc.devRef .tc main_arg0))) :=
  (pre0_3_v21 (W2 V)).trans (by rw [w2_v20 V] <;> rfl)
theorem w4_v21 : W4 V (Proc.devRef .tc main_v21) = fewLengths (firstRows (V (Proc.devRef .tc main_arg0))) :=
  (after_of_writes_sub (r := main_v21) hostOps0_4 _ hostOps0_4_wrote (by decide +kernel)).trans (w3_v21 V)
theorem w5_v21 : W5 V (Proc.devRef .tc main_v21) = fewLengths (firstRows (V (Proc.devRef .tc main_arg0))) :=
  (after_of_writes_sub (r := main_v21) hostOps0_5 _ hostOps0_5_wrote (by decide +kernel)).trans (w4_v21 V)
theorem w6_v21 : W6 V (Proc.devRef .tc main_v21) = fewLengths (firstRows (V (Proc.devRef .tc main_arg0))) :=
  (after_of_writes_sub (r := main_v21) hostOps0_6 _ hostOps0_6_wrote (by decide +kernel)).trans (w5_v21 V)
theorem w7_v21 : W7 V (Proc.devRef .tc main_v21) = fewLengths (firstRows (V (Proc.devRef .tc main_arg0))) :=
  (after_of_writes_sub (r := main_v21) hostOps0_7 _ hostOps0_7_wrote (by decide +kernel)).trans (w6_v21 V)
theorem w8_v21 : W8 V (Proc.devRef .tc main_v21) = fewLengths (firstRows (V (Proc.devRef .tc main_arg0))) :=
  (after_of_writes_sub (r := main_v21) hostOps0_8 _ hostOps0_8_wrote (by decide +kernel)).trans (w7_v21 V)
theorem w4_v22 : W4 V (Proc.devRef .tc main_v22) = allLengths (V (Proc.devRef .tc main_arg0)) :=
  (pre0_4_v22 (W3 V)).trans (by rw [w3_arg0 V] <;> rfl)
theorem w5_v23 : W5 V (Proc.devRef .tc main_v23) = shapeCast S1x16384 (allLengths (V (Proc.devRef .tc main_arg0))) shapeCasts_S16384x1_S1x16384 :=
  (pre0_5_v23 (W4 V)).trans (by rw [w4_v22 V] <;> rfl)
theorem w6_v23 : W6 V (Proc.devRef .tc main_v23) = shapeCast S1x16384 (allLengths (V (Proc.devRef .tc main_arg0))) shapeCasts_S16384x1_S1x16384 :=
  (after_of_writes_sub (r := main_v23) hostOps0_6 _ hostOps0_6_wrote (by decide +kernel)).trans (w5_v23 V)
theorem w7_v23 : W7 V (Proc.devRef .tc main_v23) = shapeCast S1x16384 (allLengths (V (Proc.devRef .tc main_arg0))) shapeCasts_S16384x1_S1x16384 :=
  (after_of_writes_sub (r := main_v23) hostOps0_7 _ hostOps0_7_wrote (by decide +kernel)).trans (w6_v23 V)
theorem w8_v23 : W8 V (Proc.devRef .tc main_v23) = shapeCast S1x16384 (allLengths (V (Proc.devRef .tc main_arg0))) shapeCasts_S16384x1_S1x16384 :=
  (after_of_writes_sub (r := main_v23) hostOps0_8 _ hostOps0_8_wrote (by decide +kernel)).trans (w7_v23 V)
theorem w5_v24 : W5 V (Proc.devRef .tc main_v24) = firstRows (V (Proc.devRef .tc main_arg1)) :=
  (pre0_5_v24 (W4 V)).trans (by rw [w4_arg1 V] <;> rfl)
theorem w6_v25 : W6 V (Proc.devRef .tc main_v25) = fewLengths (firstRows (V (Proc.devRef .tc main_arg1))) :=
  (pre0_6_v25 (W5 V)).trans (by rw [w5_v24 V] <;> rfl)
theorem w7_v25 : W7 V (Proc.devRef .tc main_v25) = fewLengths (firstRows (V (Proc.devRef .tc main_arg1))) :=
  (after_of_writes_sub (r := main_v25) hostOps0_7 _ hostOps0_7_wrote (by decide +kernel)).trans (w6_v25 V)
theorem w8_v25 : W8 V (Proc.devRef .tc main_v25) = fewLengths (firstRows (V (Proc.devRef .tc main_arg1))) :=
  (after_of_writes_sub (r := main_v25) hostOps0_8 _ hostOps0_8_wrote (by decide +kernel)).trans (w7_v25 V)
theorem w7_v26 : W7 V (Proc.devRef .tc main_v26) = allLengths (V (Proc.devRef .tc main_arg1)) :=
  (pre0_7_v26 (W6 V)).trans (by rw [w6_arg1 V] <;> rfl)
theorem w8_v27 : W8 V (Proc.devRef .tc main_v27) = shapeCast S1x16384 (allLengths (V (Proc.devRef .tc main_arg1))) shapeCasts_S16384x1_S1x16384 :=
  (pre0_8_v27 (W7 V)).trans (by rw [w7_v26 V] <;> rfl)
theorem w8_v28 : W8 V (Proc.devRef .tc main_v28) = firstRows (V (Proc.devRef .tc main_arg0)) :=
  (pre0_8_v28 (W7 V)).trans (by rw [w7_arg0 V] <;> rfl)
theorem w8_v29 : W8 V (Proc.devRef .tc main_v29) = firstRows (V (Proc.devRef .tc main_arg1)) :=
  (pre0_8_v29 (W7 V)).trans (by rw [w7_arg1 V] <;> rfl)

end Cert.KernelIdeal.Lines

end
-- ==== Proof.Ranks.lean ====
/- A stable descending sort of the positions `0 … n-1` by a value: what its leading positions are.
   `descend f j` is the position whose value comes `j`-th when the greatest value comes first and equal values come in
   position order. Two facts about a selection `g` of positions (strictly increasing, so it keeps the order of equal
   values) say when sorting the selected values alone gives the same leading values (`descend_value`) and the same
   leading positions (`descend_position`) as sorting all of them. -/
module

public import Idealize.ShloMosaic.Lib.SortPrefix

@[expose] public section

namespace Cert.Ranks

open Idealize.ShloMosaic

variable {α : Type} [LinearOrder α] {n m : Nat}

/-- Position `a` comes before `b` by value alone. -/
def greater (f : Fin n → α) (a b : Fin n) : Bool := decide (f b < f a)

/-- Position `a` comes before `b`: a greater value, or an equal value at a smaller position. -/
def ahead (f : Fin n → α) (a b : Fin n) : Bool :=
  greater f a b || (decide (f a = f b) && decide (a < b))

theorem ahead_iff (f : Fin n → α) (a b : Fin n) :
    ahead f a b = true ↔ f b < f a ∨ (f a = f b ∧ a < b) := by
  simp [ahead, greater]

theorem ahead_total (f : Fin n → α) : StrictTotalBefore (ahead f) where
  irrefl a := by simp [ahead, greater]
  trans a b c hab hbc := by
    rw [ahead_iff] at *
    rcases hab with h | ⟨h, h'⟩ <;> rcases hbc with k | ⟨k, k'⟩
    · exact Or.inl (k.trans h)
    · exact Or.inl (k ▸ h)
    · exact Or.inl (h ▸ k)
    · exact Or.inr ⟨h.trans k, h'.trans k'⟩
  total a b hne := by
    rw [ahead_iff, ahead_iff]
    rcases lt_trichotomy (f a) (f b) with h | h | h
    · exact Or.inr (Or.inl h)
    · rcases lt_or_gt_of_ne hne with k | k
      · exact Or.inl (Or.inr ⟨h, k⟩)
      · exact Or.inr (Or.inr ⟨h.symm, k⟩)
    · exact Or.inl (Or.inl h)

/-- On an increasing list the stable sort by value alone is the sort by value then position. -/
theorem stableSort_greater (f : Fin n → α) (l : List (Fin n)) (hl : l.Pairwise (· < ·)) :
    stableSort (greater f) l = stableSort (ahead f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    have : ¬ b < a := by omega
    simp [ahead, this]

/-- The position that comes `j`-th. -/
def descend (f : Fin n → α) (j : Fin n) : Fin n := sortedFrom (greater f) j

theorem descend_eq (f : Fin n → α) (j : Fin n) : descend f j = sortedFrom (ahead f) j := by
  have h : sortPositions n (greater f) = sortPositions n (ahead f) :=
    stableSort_greater f _ (List.pairwise_lt_finRange n)
  unfold descend sortedFrom
  exact List.getElem_of_eq h _

theorem descend_injective (f : Fin n → α) : Function.Injective (descend f) :=
  sortedFrom_injective (greater f)

theorem descend_surjective (f : Fin n → α) : Function.Surjective (descend f) :=
  sortedFrom_surjective (greater f)

/-- Earlier positions of the sort come before later ones. -/
theorem descend_ahead (f : Fin n → α) {i j : Fin n} (hij : i < j) :
    ahead f (descend f i) (descend f j) = true := by
  have hB := ahead_total f
  have h : ahead f (descend f j) (descend f i) = false := by
    rw [descend_eq, descend_eq]
    exact sortedFrom_noInversion (ahead f) (ahead f) (fun a b h => hB.asymm a b h) (fun _ _ h => h)
      hB.negTrans i j hij
  rcases hB.total (descend f i) (descend f j) (fun e => (ne_of_lt hij) (descend_injective f e)) with k | k
  · exact k
  · rw [k] at h; exact absurd h (by decide)

theorem descend_le (f : Fin n → α) {i j : Fin n} (hij : i ≤ j) : f (descend f j) ≤ f (descend f i) := by
  rcases eq_or_lt_of_le hij with rfl | h
  · exact le_rfl
  · rcases (ahead_iff f _ _).1 (descend_ahead f h) with k | k
    · exact k.le
    · exact k.1.symm.le

/-- Fewer than `j + 1` positions have a value above the `j`-th. -/
theorem card_above (f : Fin n → α) (j : Fin n) (s : Finset (Fin n)) (hs : ∀ x ∈ s, f (descend f j) < f x) :
    s.card ≤ j.val := by
  classical
  have hsub : s ⊆ (Finset.univ.filter fun i : Fin n => i < j).image (descend f) := by
    intro x hx
    obtain ⟨i, rfl⟩ := descend_surjective f x
    refine Finset.mem_image.2 ⟨i, Finset.mem_filter.2 ⟨Finset.mem_univ _, ?_⟩, rfl⟩
    by_contra h
    exact absurd (hs _ hx) (not_lt.2 (descend_le f (not_lt.1 h)))
  refine (Finset.card_le_card hsub).trans (Finset.card_image_le.trans ?_)
  have : (Finset.univ.filter fun i : Fin n => i < j) = Finset.Iio j := by ext; simp
  rw [this, Fin.card_Iio]

/-- If more than `j` positions have a value at least `v`, the `j`-th value is at least `v`. -/
theorem le_descend (f : Fin n → α) (j : Fin n) (v : α) (s : Finset (Fin n)) (hs : ∀ x ∈ s, v ≤ f x)
    (hc : j.val < s.card) : v ≤ f (descend f j) := by
  by_contra h
  exact absurd (card_above f j s fun x hx => (not_le.1 h).trans_le (hs x hx)) (not_le.2 hc)

/-- The first `j + 1` positions of the sort, as a set. -/
def leading (f : Fin n → α) (j : Fin n) : Finset (Fin n) := (Finset.Iic j).image (descend f)

theorem card_leading (f : Fin n → α) (j : Fin n) : (leading f j).card = j.val + 1 := by
  rw [leading, Finset.card_image_of_injective _ (descend_injective f), Fin.card_Iic]

theorem leading_le (f : Fin n → α) (j : Fin n) : ∀ x ∈ leading f j, f (descend f j) ≤ f x := by
  intro x hx
  obtain ⟨i, hi, rfl⟩ := Finset.mem_image.1 hx
  exact descend_le f (Finset.mem_Iic.1 hi)

/-- THE VALUES: if more than `j` of the selected positions have a value at least the `j`-th of all, the `j`-th
    selected value is the `j`-th of all. -/
theorem descend_value (f : Fin n → α) (g : Fin m → Fin n) (hg : Function.Injective g) (j : Fin n) (j' : Fin m)
    (hj : j'.val = j.val) (s : Finset (Fin m)) (hs : ∀ c ∈ s, f (descend f j) ≤ f (g c)) (hc : j.val < s.card) :
    f (g (descend (fun c => f (g c)) j')) = f (descend f j) := by
  classical
  refine le_antisymm ?_ (le_descend (fun c => f (g c)) j' _ s hs (by omega))
  refine le_descend f j _ ((leading (fun c => f (g c)) j').image g) ?_ ?_
  · intro x hx
    obtain ⟨c, hc', rfl⟩ := Finset.mem_image.1 hx
    exact leading_le (fun c => f (g c)) j' c hc'
  · rw [Finset.card_image_of_injective _ hg, card_leading]
    omega

/-- THE POSITIONS: if every position whose value is at least the `j`-th of all is selected, the `j`-th selected
    position is the `j`-th of all. -/
theorem descend_position (f : Fin n → α) (g : Fin m → Fin n) (hg : StrictMono g) (j : Fin n) (j' : Fin m)
    (hj : j'.val = j.val) (hall : ∀ x, f (descend f j) ≤ f x → ∃ c, g c = x) :
    g (descend (fun c => f (g c)) j') = descend f j := by
  have hall' : ∀ i : Fin (j.val + 1), ∃ c, g c = descend f ⟨i.val, by omega⟩ := fun i =>
    hall _ (descend_le f (by show i.val ≤ j.val; omega))
  choose σ hσ using hall'
  have ah : ∀ a b, ahead (fun c => f (g c)) a b = ahead f (g a) (g b) := fun a b => by
    rw [Bool.eq_iff_iff, ahead_iff, ahead_iff, hg.lt_iff_lt]
  have hinj : Function.Injective σ := fun a b e => by
    have := congrArg g e
    rw [hσ, hσ] at this
    have := descend_injective f this
    exact Fin.ext (Fin.mk.inj_iff.1 this)
  have key := (ahead_total (fun c => f (g c))).sortedFrom_eq_of_prefix (k := j.val + 1) (by omega) σ hinj
    (fun a b hab => by
      apply (ahead_total (fun c => f (g c))).asymm
      rw [ah, hσ, hσ]
      exact descend_ahead f hab)
    (fun a p hp => by
      apply (ahead_total (fun c => f (g c))).asymm
      rw [ah, hσ]
      obtain ⟨i, hi⟩ := descend_surjective f (g p)
      rw [← hi]
      refine descend_ahead f ?_
      show a.val < i.val
      by_contra hlt
      refine hp ⟨i.val, by omega⟩ (hg.injective ?_)
      rw [hσ, ← hi])
    ⟨j.val, by omega⟩
  rw [descend_eq, show j' = (⟨j.val, by omega⟩ : Fin (j.val + 1)).castLE (by omega) from Fin.ext hj, key, hσ]

end Cert.Ranks

end
-- ==== Proof.Windows.lean ====
/- Taking the greatest values out of the windows with the greatest maxima.
   The positions are divided into windows; the `K` windows of greatest maximum are kept and the values inside them
   sorted. The first `K` values are then the first `K` of all positions, whatever ties there are. The positions are
   those of the full sort at every place whose value exceeds the `K + 1`-st value of all: a position tied with that
   value may lie in a window left out. -/
module

public import proofs.«01_k».proof.Proof.Ranks

@[expose] public section

namespace Cert.Ranks

variable {α : Type} [LinearOrder α] {N W M : Nat}

/-- The positions kept when the windows of the `K` greatest maxima are: `P q` is the maximum of window `place q`, and
    `g` lists, in increasing order, the positions of the kept windows. -/
structure Kept (f : Fin N → α) (win : Fin N → Fin W) (P : Fin W → α) (place : Fin W → Fin W) (K : Nat)
    (g : Fin M → Fin N) : Prop where
  fits : K ≤ W
  onto : Function.Surjective place
  injective : Function.Injective place
  bound : ∀ x q, win x = place q → f x ≤ P q
  attained : ∀ q, ∃ x, win x = place q ∧ f x = P q
  mono : StrictMono g
  range : ∀ x, (∃ c, g c = x) ↔ ∃ i : Fin W, i.val < K ∧ place (descend P i) = win x

namespace Kept

variable {f : Fin N → α} {win : Fin N → Fin W} {P : Fin W → α} {place : Fin W → Fin W} {K : Nat} {g : Fin M → Fin N}

/-- Were a position left out, every kept window would hold a value at least as great: `K` kept positions. -/
theorem plenty (h : Kept f win P place K g) (x : Fin N) (hx : ¬ ∃ c, g c = x) :
    ∃ s : Finset (Fin M), s.card = K ∧ ∀ c ∈ s, f x ≤ f (g c) := by
  classical
  obtain ⟨q, hq⟩ := h.onto (win x)
  obtain ⟨iq, hiq⟩ := descend_surjective P q
  have hK : K ≤ iq.val := by
    by_contra hlt
    exact hx ((h.range x).2 ⟨iq, not_le.1 hlt, by rw [hiq, hq]⟩)
  have pick : ∀ i : Fin K, ∃ c, win (g c) = place (descend P ⟨i.val, by have := h.fits; omega⟩) ∧ f x ≤ f (g c) := by
    intro i
    have hi : i.val < W := by have := h.fits; omega
    obtain ⟨y, hy, hfy⟩ := h.attained (descend P ⟨i.val, hi⟩)
    obtain ⟨c, rfl⟩ := (h.range y).2 ⟨⟨i.val, hi⟩, i.isLt, hy.symm⟩
    refine ⟨c, hy, ?_⟩
    rw [hfy]
    refine (h.bound x q hq.symm).trans ?_
    rw [← hiq]
    exact descend_le P (by show i.val ≤ iq.val; omega)
  choose c hc using pick
  have hinj : Function.Injective c := fun a b e => by
    have := (hc a).1.symm.trans ((congrArg (fun z => win (g z)) e).trans (hc b).1)
    have := descend_injective P (h.injective this)
    exact Fin.ext (Fin.mk.inj_iff.1 this)
  refine ⟨Finset.univ.image c, ?_, ?_⟩
  · rw [Finset.card_image_of_injective _ hinj, Finset.card_univ, Fintype.card_fin]
  · intro z hz
    obtain ⟨i, -, rfl⟩ := Finset.mem_image.1 hz
    exact (hc i).2

/-- The first `K` values of the kept positions are the first `K` of all. -/
theorem value (h : Kept f win P place K g) (j : Fin N) (j' : Fin M) (hj : j'.val = j.val) (hK : j.val < K) :
    f (g (descend (fun c => f (g c)) j')) = f (descend f j) := by
  classical
  by_cases hall : ∀ x, f (descend f j) ≤ f x → ∃ c, g c = x
  · rw [descend_position f g h.mono j j' hj hall]
  · push Not at hall
    obtain ⟨x, hx, hno⟩ := hall
    obtain ⟨s, hs, hle⟩ := h.plenty x (by rintro ⟨c, hc⟩; exact hno c hc)
    exact descend_value f g h.mono.injective j j' hj s (fun c hc => hx.trans (hle c hc)) (by omega)

/-- So are the positions, where the value exceeds the `K + 1`-st of all. -/
theorem position (h : Kept f win P place K g) (j k : Fin N) (j' : Fin M) (hj : j'.val = j.val) (hk : k.val = K)
    (hlt : f (descend f k) < f (descend f j)) :
    g (descend (fun c => f (g c)) j') = descend f j := by
  classical
  refine descend_position f g h.mono j j' hj fun x hx => ?_
  by_contra hno
  obtain ⟨s, hs, hle⟩ := h.plenty x hno
  have hx' : x ∉ s.image g := fun hm => by
    obtain ⟨c, -, hc⟩ := Finset.mem_image.1 hm
    exact hno ⟨c, hc⟩
  have := card_above f k (insert x (s.image g)) fun y hy => by
    rcases Finset.mem_insert.1 hy with rfl | hy
    · exact hlt.trans_le hx
    · obtain ⟨c, hc, rfl⟩ := Finset.mem_image.1 hy
      exact hlt.trans_le (hx.trans (hle c hc))
  rw [Finset.card_insert_of_notMem hx', Finset.card_image_of_injective _ h.mono.injective, hs] at this
  omega

end Kept

end Cert.Ranks

end
-- ==== Proof.Words.lean ====
/- What the host operations on words and on values compute at one place: the sorts, the quotient and remainder of
   numbers that are not negative, and the reads at places inside an array. -/
module

public import proofs.«01_k».proof.Proof.Windows
public import proofs.«01_k».proof.Proof.HostLines
public import Idealize.ShloMosaic.Lib.Routing.Words
public import Idealize.ShloMosaic.Lib.Routing.OpsSearch
public import Idealize.ShloMosaic.Lib.Routing.OpsPair
public import Idealize.ShloMosaic.Lib.ReduceAll
public import Idealize.ShloMosaic.Lib.Pipeline.Value
public import Idealize.ShloMosaic.Lib.Pointwise.ElementwiseCore

@[expose] public section

noncomputable section

namespace Cert.Words

open Idealize.ShloMosaic Idealize.ShloMosaic.ValueIdx Idealize.ShloMosaic.Routing Cert.Ranks

/-! ## The greatest values and their positions -/

theorem gt_eq_greater {n : Nat} (f : Fin n → EReal) :
    (fun k k' : Fin n => FloatOps.cmpfTotal (F := Ideal) (φ := .f32) .gt (f k) (f k') == 1#1) = greater f := by
  funext k k'
  show (BitVec.ofBool (decide (f k' < f k)) == 1#1) = decide (f k' < f k)
  cases decide (f k' < f k) <;> rfl

theorem along_ix1 {n : Nat} (j k : Fin n) :
    Shape.Idx.along (s := ⟨1, ![n]⟩) (ix1 j) 0 k = ix1 k := by
  funext d
  match d with
  | ⟨0, _⟩ => exact Function.update_self (β := fun d : Fin 1 => Fin ((![n] : Fin 1 → Nat) d)) 0 k (ix1 j)

section Top
variable {n k : Nat} (x : (⟨1, ![n]⟩ : Shape).Idx → EReal)

theorem order_eq (j : Fin n) :
    sortedFrom (fun k k' : Fin n => FloatOps.cmpfTotal (F := Ideal) (φ := .f32) .gt
        (x (Shape.Idx.along (s := ⟨1, ![n]⟩) (ix1 j) 0 k)) (x (Shape.Idx.along (s := ⟨1, ![n]⟩) (ix1 j) 0 k')) == 1#1) j
      = descend (fun q => x (ix1 q)) j := by
  simp only [along_ix1]
  rw [gt_eq_greater (fun q => x (ix1 q))]
  rfl

theorem sort_value (y : (⟨1, ![n]⟩ : Shape).Idx → BitVec 32) (j : Fin n) :
    (Host.sort2 ⟨1, ![n]⟩ 0 (fun l r : EReal × BitVec 32 => FloatOps.cmpfTotal (F := Ideal) (φ := .f32) .gt l.1 r.1) x y).1
      (ix1 j) = x (ix1 (descend (fun q => x (ix1 q)) j)) := by
  rw [← order_eq x j]
  exact congrArg x (along_ix1 j _)

theorem sort_index (y : (⟨1, ![n]⟩ : Shape).Idx → BitVec 32) (j : Fin n) :
    (Host.sort2 ⟨1, ![n]⟩ 0 (fun l r : EReal × BitVec 32 => FloatOps.cmpfTotal (F := Ideal) (φ := .f32) .gt l.1 r.1) x y).2
      (ix1 j) = y (ix1 (descend (fun q => x (ix1 q)) j)) := by
  rw [← order_eq x j]
  exact congrArg y (along_ix1 j _)

variable (h : (⟨1, ![n]⟩ : Shape).Slices (fun _ => 0) ⟨1, ![k]⟩)

theorem first_apply {α : Type} (y : (⟨1, ![n]⟩ : Shape).Idx → α) (j : Fin k) (j' : Fin n) (hj : j'.val = j.val) :
    extractStridedSlice ⟨1, ![k]⟩ (fun _ => 0) y h (ix1 j) = y (ix1 j') := by
  unfold extractStridedSlice
  congr 1
  funext a
  match a with
  | ⟨0, _⟩ => exact Fin.ext (by simp [hj])

/-- The value at place `j` of the `k` greatest. -/
theorem top_value (j : Fin k) (j' : Fin n) (hj : j'.val = j.val) :
    (Host.topK ⟨1, ![k]⟩ 0 (FloatOps.cmpfTotal (F := Ideal) (φ := .f32) .gt) x h).1 (ix1 j)
      = x (ix1 (descend (fun q => x (ix1 q)) j')) := by
  refine Eq.trans (b := (Host.sort2 ⟨1, ![n]⟩ 0
    (fun l r : EReal × BitVec 32 => FloatOps.cmpfTotal (F := Ideal) (φ := .f32) .gt l.1 r.1) x
    (fun i => iotaInDim ⟨1, ![n]⟩ 32 0 i)).1 (ix1 j')) ?_ (sort_value x _ j')
  exact first_apply h (Host.sort2 ⟨1, ![n]⟩ 0
    (fun l r : EReal × BitVec 32 => FloatOps.cmpfTotal (F := Ideal) (φ := .f32) .gt l.1 r.1) x
    (fun i => iotaInDim ⟨1, ![n]⟩ 32 0 i)).1 j j' hj

/-- Its position. -/
theorem top_index (j : Fin k) (j' : Fin n) (hj : j'.val = j.val) :
    (Host.topK ⟨1, ![k]⟩ 0 (FloatOps.cmpfTotal (F := Ideal) (φ := .f32) .gt) x h).2 (ix1 j)
      = BitVec.ofNat 32 (descend (fun q => x (ix1 q)) j').val := by
  refine Eq.trans (b := (Host.sort2 ⟨1, ![n]⟩ 0
    (fun l r : EReal × BitVec 32 => FloatOps.cmpfTotal (F := Ideal) (φ := .f32) .gt l.1 r.1) x
    (fun i => iotaInDim ⟨1, ![n]⟩ 32 0 i)).2 (ix1 j')) ?_ (sort_index x _ j')
  exact first_apply h (Host.sort2 ⟨1, ![n]⟩ 0
    (fun l r : EReal × BitVec 32 => FloatOps.cmpfTotal (F := Ideal) (φ := .f32) .gt l.1 r.1) x
    (fun i => iotaInDim ⟨1, ![n]⟩ 32 0 i)).2 j j' hj

end Top

/-! ## The sort of distinct words -/

section Increasing
variable {n : Nat} (w : (⟨1, ![n]⟩ : Shape).Idx → BitVec 32) (a : Fin n → Nat)

theorem lt_eq_greater (ha : ∀ k, a k < 2 ^ 31) :
    (fun k k' : Fin n => IntOp.cmpi .slt (BitVec.ofNat 32 (a k)) (BitVec.ofNat 32 (a k')) == 1#1)
      = greater (fun k => OrderDual.toDual (a k)) := by
  funext k k'
  show (BitVec.ofBool ((BitVec.ofNat 32 (a k)).slt (BitVec.ofNat 32 (a k'))) == 1#1) = decide (a k < a k')
  rw [slt_ofNat32 (ha k) (ha k')]
  cases decide (a k < a k') <;> rfl

/-- Words sorted in increasing order, through the naturals they hold. -/
theorem sort_words (hw : ∀ k, w (ix1 k) = BitVec.ofNat 32 (a k)) (ha : ∀ k, a k < 2 ^ 31) (j : Fin n) :
    Host.sort ⟨1, ![n]⟩ 0 (IntOp.cmpi .slt) w (ix1 j)
      = BitVec.ofNat 32 (a (descend (fun k => OrderDual.toDual (a k)) j)) := by
  have e : sortedFrom (fun k k' : Fin n => IntOp.cmpi .slt
        (w (Shape.Idx.along (s := ⟨1, ![n]⟩) (ix1 j) 0 k)) (w (Shape.Idx.along (s := ⟨1, ![n]⟩) (ix1 j) 0 k')) == 1#1) j
      = descend (fun k => OrderDual.toDual (a k)) j := by
    simp only [along_ix1, hw]
    rw [lt_eq_greater a ha]
    rfl
  rw [← hw, ← e]
  exact congrArg w (along_ix1 j _)

/-- Distinct ones are strictly increasing. -/
theorem sorted_strict (hi : Function.Injective a) :
    StrictMono (fun j => a (descend (fun k => OrderDual.toDual (a k)) j)) := by
  intro j k hjk
  have h1 : a (descend (fun k => OrderDual.toDual (a k)) j) ≤ a (descend (fun k => OrderDual.toDual (a k)) k) :=
    descend_le (fun k => OrderDual.toDual (a k)) hjk.le
  refine lt_of_le_of_ne h1 fun e => ?_
  exact hjk.ne (descend_injective _ (hi e))

end Increasing

/-! ## The host's calls -/

section Calls
open Cert.KernelIdeal Cert.KernelIdeal.Gen Cert.KernelIdeal.Lines

theorem remainder_word (x : Arr S1024 .i32) (i : S1024.Idx) {a b : Nat} (hx : x i = BitVec.ofNat 32 a)
    (ha : a < 2 ^ 31) (h0 : 0 < b) (hb : b < 2 ^ 31) :
    remainder x (constantI S_ 32 (BitVec.ofNat 32 b)) i = BitVec.ofNat 32 (a % b) :=
  pyRem_ap bcast_S_S1024 x (constantI S_ 32 (BitVec.ofNat 32 b)) i hx rfl ha h0 hb

theorem quotient_word (x : Arr S1024 .i32) (i : S1024.Idx) {a b : Nat} (hx : x i = BitVec.ofNat 32 a)
    (ha : a < 2 ^ 31) (h0 : 0 < b) (hb : b < 2 ^ 31) :
    quotient x (constantI S_ 32 (BitVec.ofNat 32 b)) i = BitVec.ofNat 32 (a / b) :=
  pyDiv_ap bcast_S_S1024 x (constantI S_ 32 (BitVec.ofNat 32 b)) i hx rfl ha h0 hb

theorem flatPlaces_word (w : Arr S1024 .i32) (k : Fin 1024) (l : Fin 256) {v : Nat} (hw : w (ix1 k) = BitVec.ofNat 32 v)
    (i : Fin 262144) (hi : i.val = k.val * 256 + l.val) :
    flatPlaces w (ix1 i) = BitVec.ofNat 32 (v * 256 + l.val) := by
  unfold flatPlaces
  rw [shapeCast_apply (k := ix2 k l) (hk := by
    rw [Shape.rowMajor_val_two, Shape.rowMajor_val_one]; exact hi.symm)]
  unfold places
  show IntOp.addi _ _ = _
  rw [broadcastInDim_apply (k := ix2 k (0 : Fin 1)) (hk := fun a => by
      match a with
      | ⟨0, _⟩ => rfl
      | ⟨1, _⟩ => rfl),
    broadcastInDim_apply (k := ix2 (0 : Fin 1) l) (hk := fun a => by
      match a with
      | ⟨0, _⟩ => rfl
      | ⟨1, _⟩ => rfl)]
  show IntOp.addi (IntOp.muli _ _) _ = _
  rw [broadcastInDim_apply (k := ix1 k) (hk := fun a => by
      match a with
      | ⟨0, _⟩ => rfl), hw,
    broadcastInDim_apply (x := iotaInDim S256 32 0) (k := ix1 l) (hk := fun a => by
      match a with
      | ⟨0, _⟩ => rfl)]
  show BitVec.ofNat 32 v * BitVec.ofNat 32 256 + BitVec.ofNat 32 l.val = _
  rw [BitVec.ofNat_add, BitVec.ofNat_mul]

/-- Places inside the array are read as they are. -/
theorem wrapped_word (p : Arr S262144 .i32) (i : Fin 262144) {a : Nat} (ha : a < 2 ^ 31) (hp : p (ix1 i) = BitVec.ofNat 32 a) :
    wrapped p (ix2 i (0 : Fin 1)) = BitVec.ofNat 32 a := by
  unfold wrapped
  rw [broadcastInDim_apply (k := ix1 i) (hk := fun a => by
      match a with
      | ⟨0, _⟩ => rfl)]
  show Scalar.select (IntOp.cmpi .slt (p (ix1 i)) 0#32) _ (p (ix1 i)) = _
  rw [wrap_of_lt, hp]
  rw [hp, BitVec.toNat_ofNat]
  exact lt_of_le_of_lt (Nat.mod_le _ _) ha

theorem within_one (p : Arr S262144 .i32) (a : Fin 262144 → Nat) (ha : ∀ i, a i < 33554432)
    (hp : ∀ i, p (ix1 i) = BitVec.ofNat 32 (a i)) (j : S262144.Idx) : within (wrapped p) j = 1#1 := by
  unfold within
  refine Host.reduce_andi_one _ _ _ _ _ rfl fun i => ?_
  have e : i = ix2 (i 0) (0 : Fin 1) := by
    funext d
    match d with
    | ⟨0, _⟩ => rfl
    | ⟨1, _⟩ => exact Fin.ext (by have := (i 1).isLt; show (i 1).val = 0; simpa using this)
  have hw := wrapped_word p (i 0) (lt_trans (ha (i 0)) (by decide)) (hp (i 0))
  rw [e]
  show IntOp.andi (IntOp.cmpi .sge (wrapped p (ix2 (i 0) (0 : Fin 1))) (BitVec.ofNat 32 0))
    (IntOp.cmpi .sle (wrapped p (ix2 (i 0) (0 : Fin 1))) (BitVec.ofNat 32 33554431)) = 1#1
  rw [hw]
  have h1 := ha (i 0)
  have hb : ∀ x y : Nat, x < 2 ^ 31 → y < 2 ^ 31 → (BitVec.ofNat 32 x).sle (BitVec.ofNat 32 y) = decide (x ≤ y) := by
    intro x y hx hy
    rw [BitVec.sle_eq_not_slt, slt_ofNat32 hy hx]
    by_cases h : x ≤ y <;> simp [h, Nat.not_lt, Nat.not_le] <;> omega
  show BitVec.ofBool ((BitVec.ofNat 32 0).sle (BitVec.ofNat 32 (a (i 0)))) &&& BitVec.ofBool ((BitVec.ofNat 32 (a (i 0))).sle (BitVec.ofNat 32 33554431)) = 1#1
  rw [hb _ _ (by decide) (by omega), hb _ _ (by omega) (by decide), decide_eq_true (Nat.zero_le _),
    decide_eq_true (by omega)]
  rfl

theorem take_word (x : Arr S33554432 .f32) (p : Arr S262144 .i32) (a : Fin 262144 → Nat) (ha : ∀ i, a i < 33554432)
    (hp : ∀ i, p (ix1 i) = BitVec.ofNat 32 (a i)) (i : Fin 262144) :
    take x p (ix1 i) = x (ix1 ⟨a i, ha i⟩) := by
  unfold take
  show Scalar.select (within (wrapped p) (ix1 i)) _ _ = _
  rw [within_one p a ha hp]
  exact take_ap gather_S33554432_S262144x1_S262144_n_0_n_n_0_1_1 rfl rfl rfl rfl x (wrapped p) i (ha i)
    (lt_trans (ha i) (by decide)) (wrapped_word p i (lt_trans (ha i) (by decide)) (hp i))

theorem found_word (p : Arr S262144 .i32) (ci : Arr S1024 .i32) (j : Fin 1024) {a : Nat} (ha : a < 262144)
    (hc : ci (ix1 j) = BitVec.ofNat 32 a) : found p ci (ix1 j) = p (ix1 ⟨a, ha⟩) := by
  unfold found
  refine take_ap gather_S262144_S1024x1_S1024_n_0_n_n_0_1_1 rfl rfl rfl rfl p _ j ha (lt_trans ha (by decide)) ?_
  rw [broadcastInDim_apply (k := ix1 j) (hk := fun a => by
      match a with
      | ⟨0, _⟩ => rfl)]
  show Scalar.select (IntOp.cmpi .slt (ci (ix1 j)) 0#32) _ (ci (ix1 j)) = _
  rw [wrap_of_lt, hc]
  rw [hc, BitVec.toNat_ofNat]
  exact lt_of_le_of_lt (Nat.mod_le _ _) (lt_trans ha (by decide))

theorem column_apply (c : Arr S1024 .i32) (j : Fin 1024) :
    broadcastInDim S1024x1 ![0] bcast_S1024_S1024x1_0 c (ix2 j (0 : Fin 1)) = c (ix1 j) :=
  broadcastInDim_apply _ _ _ _ (ix1 j) fun e => by
    match e with
    | ⟨0, _⟩ => rfl

theorem columns_left (c d : Arr S1024 .i32) (j : Fin 1024) : columns c d (ix2 j (0 : Fin 2)) = c (ix1 j) := by
  unfold columns
  refine Eq.trans (concatenate_pair_apply_left (1 : Fin S1024x2.rank) _ _ concatenates_S1024x1_S1024x1_S1024x2_d1
    (ix2 j (0 : Fin 2)) rfl (ix2 j (0 : Fin 1)) fun e => ?_) (column_apply c j)
  match e with
  | ⟨0, _⟩ => rfl
  | ⟨1, _⟩ => rfl

theorem columns_right (c d : Arr S1024 .i32) (j : Fin 1024) : columns c d (ix2 j (1 : Fin 2)) = d (ix1 j) := by
  unfold columns
  refine Eq.trans (concatenate_pair_apply_right (1 : Fin S1024x2.rank) _ _ concatenates_S1024x1_S1024x1_S1024x2_d1
    (ix2 j (1 : Fin 2)) rfl rfl (ix2 j (0 : Fin 1)) (fun e he => ?_) rfl) (column_apply d j)
  match e with
  | ⟨0, _⟩ => rfl
  | ⟨1, _⟩ => exact absurd rfl he

/-- The rows and columns of two lists of places agree where the places do. -/
theorem pairs_congr (p q : Arr S1024 .i32) (j : Fin 1024) (e : Fin 2) {a : Nat} (ha : a < 2 ^ 31)
    (hp : p (ix1 j) = BitVec.ofNat 32 a) (hq : q (ix1 j) = BitVec.ofNat 32 a) : pairs p (ix2 j e) = pairs q (ix2 j e) := by
  unfold pairs
  match e with
  | ⟨0, _⟩ =>
    exact (columns_left _ _ j).trans (((quotient_word p (ix1 j) (b := 16384) hp ha (by decide) (by decide)).trans
      (quotient_word q (ix1 j) (b := 16384) hq ha (by decide) (by decide)).symm).trans (columns_left _ _ j).symm)
  | ⟨1, _⟩ =>
    exact (columns_right _ _ j).trans (((remainder_word p (ix1 j) (b := 16384) hp ha (by decide) (by decide)).trans
      (remainder_word q (ix1 j) (b := 16384) hq ha (by decide) (by decide)).symm).trans (columns_right _ _ j).symm)

end Calls

end Cert.Words

end
-- ==== Proof.Scatters.lean ====
/- Where a scattered update lands: by one word into a vector, by two words into a matrix. -/
module

public import Idealize.ShloMosaic.Lib.Routing.OpsPair

@[expose] public section

namespace Cert.Scatters

open Idealize.ShloMosaic Idealize.ShloMosaic.ValueIdx Idealize.ShloMosaic.Routing

/-- The words an update reads sit in its own row. -/
theorem row_of_update {s : Shape} {K P : Nat} (d : ScatterDims s (shape2 K P) (shape1 K)) (hivd : d.indexVectorDim = 1)
    (i : Fin K) (k : Fin d.scatterDimsToOperandDims.length) : (d.siIdx (ix1 i) k 0).val = i.val := by
  have e : ∀ z : Fin 1, (ix1 i z).val = i.val := fun z => by
    obtain rfl : z = 0 := Subsingleton.elim _ _
    rfl
  unfold ScatterDims.siIdx
  rw [dif_neg (by rw [hivd]; exact Nat.zero_ne_one)]
  unfold ScatterDims.siCoord
  simp only [Fin.val_cast]
  exact e _

/-- Each word an update reads sits in its own column. -/
theorem column_of_update {s : Shape} {K P : Nat} (d : ScatterDims s (shape2 K P) (shape1 K)) (hivd : d.indexVectorDim = 1)
    (i : Fin K) (k : Fin d.scatterDimsToOperandDims.length) : (d.siIdx (ix1 i) k 1).val = k.val := by
  unfold ScatterDims.siIdx
  rw [dif_pos (by rw [hivd]; rfl)]

/-- An update with one word lands at that word. -/
theorem lands_key {M K w : Nat} (d : ScatterDims (shape1 M) (shape2 K 1) (shape1 K)) (hiw : d.insertedWindowDims = [0])
    (hsd : d.scatterDimsToOperandDims = [0]) (hivd : d.indexVectorDim = 1) (idx : IVec (shape2 K 1) w) (i : Fin K) (x : Fin M) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun z => (idx z).toInt) (funext fun b => Fin.ext ?_)
    match b with
    | ⟨0, _⟩ => exact row_of_update d hivd i _
    | ⟨1, _⟩ =>
      refine (column_of_update d hivd i _).trans ?_
      show List.idxOf (0 : Fin 1) d.scatterDimsToOperandDims = 0
      rw [hsd]; simp
  rw [resultIdx?_ix1, hstart, hwin]
  omega

/-- An update with two words lands at the row and column they name. -/
theorem lands_pair {R C K w : Nat} (d : ScatterDims (shape2 R C) (shape2 K 2) (shape1 K)) (hiw : d.insertedWindowDims = [0, 1])
    (hsd : d.scatterDimsToOperandDims = [0, 1]) (hivd : d.indexVectorDim = 1) (idx : IVec (shape2 K 2) w)
    (i : Fin K) (r : Fin R) (c : Fin C) :
    d.resultIdx? (ix1 i) idx = some (ix2 r c)
      ↔ (idx (ix2 i (0 : Fin 2))).toInt = (r.val : Int) ∧ (idx (ix2 i (1 : Fin 2))).toInt = (c.val : Int) := by
  have hm : ∀ q : Fin 2, q ∈ d.scatterDimsToOperandDims := fun q => by rw [hsd]; fin_cases q <;> simp
  have hwin : ∀ q : Fin 2, d.window (ix1 i) q = 0 := fun q => by
    unfold ScatterDims.window
    rw [dif_neg fun h => (of_decide_eq_true (List.mem_filter.1 h).2) (by rw [hiw]; fin_cases q <;> simp)]
  have hstart : ∀ q : Fin 2, d.start (ix1 i) idx q = (idx (ix2 i q)).toInt := fun q => by
    unfold ScatterDims.start
    rw [dif_pos (hm q)]
    refine congrArg (fun z => (idx z).toInt) (funext fun b => Fin.ext ?_)
    match b with
    | ⟨0, _⟩ => exact row_of_update d hivd i _
    | ⟨1, _⟩ =>
      refine (column_of_update d hivd i _).trans ?_
      show List.idxOf q d.scatterDimsToOperandDims = q.val
      rw [hsd]
      fin_cases q <;> rfl
  rw [resultIdx?_ix2, hstart, hstart, hwin, hwin]
  omega

end Cert.Scatters

end
-- ==== Proof.Payload.lean ====
/- What the kernel's stored blocks hold at one place: a weighted sum of two quotients with the masks' terms added, and
   the greatest and the least of each 256 columns. -/
module

public import proofs.«01_k».proof.Proof.Gen.KernelIdeal.Skeleton
public import Idealize.ShloMosaic.Lib.Pointwise.Tactic
public import Idealize.ShloMosaic.Lib.Pointwise.IndexBridge
public import Idealize.ShloMosaic.Lib.Pipeline.Value
public import Idealize.ShloMosaic.Lib.ValueLayout
public import Idealize.ShloMosaic.Lib.ValueLayoutCasts
public import Idealize.ShloMosaic.Lib.MatmulPlain

@[expose] public section

noncomputable section

namespace Cert.Sims

open Idealize.ShloMosaic

/-- A dot product over the product of two lengths, that product kept away from zero. -/
def cosine (d u v : EReal) : EReal := Ideal.div d (max (u * v) (Ideal.ofBits .f32 0x322BCC77#32))

/-- Half of each. -/
def blend (x y : EReal) : EReal := Ideal.ofBits .f32 0x3F000000#32 * x + Ideal.ofBits .f32 0x3F000000#32 * y

/-- One where the proposition holds, zero elsewhere. -/
def flag (p : Prop) [Decidable p] : EReal := if p then 1 else 0

/-- A similarity pushed down where an edge or the diagonal is marked. -/
def pushDown (s e d : EReal) : EReal := s + (e + d) * Ideal.ofBits .f32 0xC2C60000#32

/-- A similarity pushed up where no edge is marked. -/
def pushUp (s e : EReal) : EReal := s + (1 - e) * Ideal.ofBits .f32 0x42C60000#32

end Cert.Sims

namespace Cert.KernelIdeal.Payload

open Idealize.ShloMosaic hiding ix0 ix1 ix2
open Idealize.ShloMosaic.ValueIdx Cert.KernelIdeal Cert.KernelIdeal.Gen Cert.Sims
open scoped BigOperators

theorem dot_apply (x : FVec Ideal S256x256 .f32) (y : FVec Ideal S2048x256 .f32) (p : Fin 256) (q : Fin 2048) :
    matmul dot_S256x256_S2048x256_S256x2048_1_1_0_0_n_n none x y (constant S256x2048 .f32 0x00000000#32) (ix2 p q)
      = ∑ k : Fin 256, x (ix2 p k) * y (ix2 q k) := by
  refine (Ideal.matmul_transposedRhs_apply (M := 256) (K := 256) (N := 2048) none x y _ p q).trans ?_
  show Ideal.ofBits .f32 0x00000000#32 + _ = _
  rw [Ideal.ofBits_zero_f32, zero_add]

/-- The similarity at one place. -/
theorem sim_apply (x0 : FVec Ideal S256x256 .f32) (x1 : FVec Ideal S2048x256 .f32) (x2 : FVec Ideal S256x256 .f32)
    (x3 : FVec Ideal S2048x256 .f32) (x4 : FVec Ideal S256x1 .f32) (x5 : FVec Ideal S1x2048 .f32)
    (x6 : FVec Ideal S256x1 .f32) (x7 : FVec Ideal S1x2048 .f32) (p : Fin 256) (q : Fin 2048) :
    k0_pay3 (F := Ideal) x0 x1 x2 x3 x4 x5 x6 x7 (ix2 p q)
      = blend (cosine (∑ k : Fin 256, x0 (ix2 p k) * x1 (ix2 q k)) (x4 (ix2 p 0)) (x5 (ix2 0 q)))
          (cosine (∑ k : Fin 256, x2 (ix2 p k) * x3 (ix2 q k)) (x6 (ix2 p 0)) (x7 (ix2 0 q))) := by
  rw [← dot_apply, ← dot_apply]
  unfold k0_pay3 blend cosine
  simp only [← ix2_eq_valueIdx, shapeCast_self]
  pointwise

theorem flag_word (b : Bool) :
    FloatOps.sitofp (F := Ideal) .f32 (BitVec.setWidth 32 (BitVec.ofBool b)) = flag (b = true) := by
  cases b
  · show ((BitVec.toInt (BitVec.setWidth 32 (BitVec.ofBool false)) : ℝ) : EReal) = _
    simp [flag]
  · show ((BitVec.toInt (BitVec.setWidth 32 (BitVec.ofBool true)) : ℝ) : EReal) = _
    simp [flag]

/-- The edges' marks. -/
theorem edge_apply (x8 : FVec Ideal S256x2048 .f32) (p : Fin 256) (q : Fin 2048) :
    k0_pay4 (F := Ideal) x8 (ix2 p q) = flag (0 < x8 (ix2 p q)) := by
  have h : k0_pay4 (F := Ideal) x8 (ix2 p q)
      = FloatOps.sitofp (F := Ideal) .f32 (BitVec.setWidth 32 (BitVec.ofBool (decide
          (Ideal.ofBits .f32 0x00000000#32 < shapeCast S256x2048 x8 shapeCasts_S256x2048_S256x2048 (ix2 p q))))) := rfl
  rw [h, shapeCast_self, flag_word, Ideal.ofBits_zero_f32]
  simp only [decide_eq_true_eq]

theorem iota_rows (p : Fin 256) (q : Fin 2048) :
    iota .tc S256x2048 32 [0] iota_S256x2048_d0_w32 (ix2 p q) = BitVec.ofNat 32 p.val :=
  iota_single_apply _ _ _ _ _ _

theorem iota_columns (p : Fin 256) (q : Fin 2048) :
    iota .tc S256x2048 32 [1] iota_S256x2048_d1_w32 (ix2 p q) = BitVec.ofNat 32 q.val :=
  iota_single_apply _ _ _ _ _ _

theorem diag_word (i j p q : Nat) (hi : i < 8) (hj : j < 8) (hp : p < 256) (hq : q < 2048) :
    IntOp.cmpi .eq (IntOp.addi (Scalar.muli (BitVec.ofNat 32 i) 256#32) (BitVec.ofNat 32 p))
        (IntOp.addi (Scalar.muli (BitVec.ofNat 32 j) 2048#32) (BitVec.ofNat 32 q))
      = BitVec.ofBool (decide (i * 256 + p = j * 2048 + q)) := by
  have ha : IntOp.addi (Scalar.muli (BitVec.ofNat 32 i) 256#32) (BitVec.ofNat 32 p) = BitVec.ofNat 32 (i * 256 + p) := by
    show BitVec.ofNat 32 i * BitVec.ofNat 32 256 + BitVec.ofNat 32 p = _
    rw [BitVec.ofNat_add, BitVec.ofNat_mul]
  have hb : IntOp.addi (Scalar.muli (BitVec.ofNat 32 j) 2048#32) (BitVec.ofNat 32 q) = BitVec.ofNat 32 (j * 2048 + q) := by
    show BitVec.ofNat 32 j * BitVec.ofNat 32 2048 + BitVec.ofNat 32 q = _
    rw [BitVec.ofNat_add, BitVec.ofNat_mul]
  rw [ha, hb]
  show BitVec.ofBool (BitVec.ofNat 32 (i * 256 + p) == BitVec.ofNat 32 (j * 2048 + q)) = _
  congr 1
  rw [Bool.eq_iff_iff, beq_iff_eq, decide_eq_true_eq]
  constructor
  · intro h
    have := congrArg BitVec.toNat h
    simp only [BitVec.toNat_ofNat] at this
    omega
  · intro h; rw [h]

/-- The addition array's block. -/
theorem down_apply (i j : Nat) (hi : i < 8) (hj : j < 8) (v : FVec Ideal S256x2048 .f32) (x8 : FVec Ideal S256x2048 .f32)
    (p : Fin 256) (q : Fin 2048) :
    k0_pay5 (F := Ideal) (BitVec.ofNat 32 j) v (Scalar.muli (BitVec.ofNat 32 i) 256#32) (iota .tc S256x2048 32 [0] iota_S256x2048_d0_w32) x8
        (ix2 p q)
      = pushDown (v (ix2 p q)) (flag (0 < x8 (ix2 p q))) (flag (i * 256 + p.val = j * 2048 + q.val)) := by
  rw [← edge_apply]
  have h : flag (i * 256 + p.val = j * 2048 + q.val) = FloatOps.sitofp (F := Ideal) .f32 (BitVec.setWidth 32
      (IntOp.cmpi .eq (IntOp.addi (Scalar.muli (BitVec.ofNat 32 i) 256#32) (BitVec.ofNat 32 p.val))
        (IntOp.addi (Scalar.muli (BitVec.ofNat 32 j) 2048#32) (BitVec.ofNat 32 q.val)))) := by
    rw [diag_word i j p.val q.val hi hj p.isLt q.isLt, flag_word]
    simp only [decide_eq_true_eq]
  rw [h, ← iota_rows p q, ← iota_columns p q]
  rfl

/-- The removal array's block. -/
theorem up_apply (v : FVec Ideal S256x2048 .f32) (x8 : FVec Ideal S256x2048 .f32) (p : Fin 256) (q : Fin 2048) :
    k0_pay6 (F := Ideal) v x8 (ix2 p q) = pushUp (v (ix2 p q)) (flag (0 < x8 (ix2 p q))) := by
  rw [← edge_apply, pushUp, ← Ideal.ofBits_one_f32]
  rfl

/-- The column a window of the block starts at, and one of its columns. -/
def within (w : Fin 8) (l : Fin 256) : Fin 2048 := ⟨w.val * 256 + l.val, by have := w.isLt; have := l.isLt; omega⟩

theorem slices (w : Fin 8) : S256x2048.Slices ![0, w.val * 256] S256x256 := by
  fin_cases w <;> decide

/-- One window's columns. -/
def band (v : FVec Ideal S256x2048 .f32) (w : Fin 8) : FVec Ideal S256x256 .f32 :=
  extractStridedSlice S256x256 ![0, w.val * 256] v (slices w)

theorem band_apply (v : FVec Ideal S256x2048 .f32) (w : Fin 8) (p l : Fin 256) :
    band v w (ix2 p l) = v (ix2 p (within w l)) :=
  extractStridedSlice_apply _ _ _ _ _ (fun a => match a with
    | ⟨0, _⟩ => by show p.val = 0 + p.val; omega
    | ⟨1, _⟩ => rfl)

/-- The greatest of each row of a window, as a column. -/
def tops (v : FVec Ideal S256x2048 .f32) (w : Fin 8) : FVec Ideal S256x1 .f32 :=
  shapeCast S256x1 (multiReduction .maximumf [1] S256 (band v w) 0xFF800000#32 reduces_S256x256_S256 (.inl rfl) rfl)
    shapeCasts_S256_S256x1

/-- The least of each row of a window, as a column. -/
def lows (v : FVec Ideal S256x2048 .f32) (w : Fin 8) : FVec Ideal S256x1 .f32 :=
  shapeCast S256x1 (multiReduction .minimumf [1] S256 (band v w) 0x7F800000#32 reduces_S256x256_S256 (.inl rfl) rfl)
    shapeCasts_S256_S256x1

theorem columns_fit (c : Fin 8 → FVec Ideal S256x1 .f32) :
    Shape.Concatenates ((List.ofFn fun n : Fin 8 => (⟨S256x1, c n⟩ : (s : Shape) × (s.Idx → EReal))).map (·.1)) S256x8 1 :=
  concatenates_S256x1_S256x1_S256x1_S256x1_S256x1_S256x1_S256x1_S256x1_S256x8_d1

/-- Eight columns side by side, turned. -/
def turned (c : Fin 8 → FVec Ideal S256x1 .f32) : FVec Ideal S8x256 .f32 :=
  transpose S8x256 [1, 0]
    (concatenate S256x8 1 (List.ofFn fun n : Fin 8 => (⟨S256x1, c n⟩ : (s : Shape) × (s.Idx → EReal))) (columns_fit c))
    transposes_S256x8_p1_0_S8x256

theorem turned_apply (c : Fin 8 → FVec Ideal S256x1 .f32) (w : Fin 8) (p : Fin 256) :
    turned c (ix2 w p) = c w (ix2 p 0) := by
  have h : turned c (ix2 w p)
      = concatenate S256x8 1 (List.ofFn fun n : Fin 8 => (⟨S256x1, c n⟩ : (s : Shape) × (s.Idx → EReal))) (columns_fit c)
          (ix2 p w) :=
    transpose_apply _ _ _ _ _ (fun a => match a with | ⟨0, _⟩ => rfl | ⟨1, _⟩ => rfl)
  rw [h]
  exact concatenate_ofFn_unit_apply 1 c (columns_fit c) rfl rfl (ix2 p w) w rfl (ix2 p 0) (fun b hb => by
    match b with
    | ⟨0, _⟩ => rfl
    | ⟨1, _⟩ => exact absurd rfl hb)

theorem tops_block (a : BitVec 32) (v32 : FVec Ideal S256x2048 .f32) (b : BitVec 32) (i : IVec S256x2048 32)
    (e : FVec Ideal S256x2048 .f32) :
    k0_pay1 (k0_pay5 a v32 b i e) (k0_pay7 a v32 b i e) (k0_pay8 a v32 b i e) (k0_pay9 a v32 b i e)
      (k0_pay10 a v32 b i e) (k0_pay11 a v32 b i e) (k0_pay12 a v32 b i e) = turned (tops (k0_pay5 a v32 b i e)) := by
  unfold k0_pay1 k0_pay7 k0_pay8 k0_pay9 k0_pay10 k0_pay11 k0_pay12
  generalize k0_pay5 a v32 b i e = v
  rfl

theorem lows_block (v : FVec Ideal S256x2048 .f32) : k0_pay2 v = turned (lows v) := rfl

theorem fold_max_reached {n : Nat} (f : Fin n → EReal) (z : EReal) (h0 : ∀ l, z ≤ f l) (k : Fin n) :
    ∃ l, f l = (Finset.univ : Finset (Fin n)).fold max z f := by
  have h := (Finset.le_fold_max (s := Finset.univ) (b := z) (f := f) _).1 le_rfl
  have up : ∀ l, f l ≤ (Finset.univ : Finset (Fin n)).fold max z f := fun l =>
    (Finset.le_fold_max _).2 (Or.inr ⟨l, Finset.mem_univ l, le_rfl⟩)
  rcases h with h | ⟨l, -, h⟩
  · exact ⟨k, le_antisymm (up k) (h.trans (h0 k))⟩
  · exact ⟨l, le_antisymm (up l) h⟩

theorem fold_min_reached {n : Nat} (f : Fin n → EReal) (z : EReal) (h0 : ∀ l, f l ≤ z) (k : Fin n) :
    ∃ l, f l = (Finset.univ : Finset (Fin n)).fold min z f := by
  have h := (Finset.fold_min_le (s := Finset.univ) (b := z) (f := f) _).1 le_rfl
  have up : ∀ l, (Finset.univ : Finset (Fin n)).fold min z f ≤ f l := fun l =>
    (Finset.fold_min_le _).2 (Or.inr ⟨l, Finset.mem_univ l, le_rfl⟩)
  rcases h with h | ⟨l, -, h⟩
  · exact ⟨k, le_antisymm ((h0 k).trans h) (up k)⟩
  · exact ⟨l, le_antisymm h (up l)⟩

theorem bits_bottom : Ideal.ofBits .f32 0xFF800000#32 = ⊥ := by simp [Ideal.ofBits, Ideal.ieee]
theorem bits_top : Ideal.ofBits .f32 0x7F800000#32 = ⊤ := by simp [Ideal.ofBits, Ideal.ieee]

theorem lift_row (p l : Fin 256) : (reduces_S256x256_S256).lift (ix1 p) l = ix2 p l := by
  funext a
  match a with
  | ⟨0, _⟩ => rfl
  | ⟨1, _⟩ => rfl

theorem tops_fold (v : FVec Ideal S256x2048 .f32) (w : Fin 8) (p : Fin 256) :
    tops v w (ix2 p 0) = (Finset.univ : Finset (Fin 256)).fold max ⊥ (fun l => v (ix2 p (within w l))) := by
  refine (shapeCast_a_a1_apply _ _ p 0).trans ?_
  refine (Ideal.multiReduction_maximumf_single _ _ _ _ _ _).trans ?_
  have e : (band v w) ∘ (reduces_S256x256_S256).lift (ix1 p) = fun l => v (ix2 p (within w l)) :=
    funext fun l => (congrArg (band v w) (lift_row p l)).trans (band_apply v w p l)
  rw [e]
  exact congrArg (fun z => (Finset.univ : Finset (Fin 256)).fold max z (fun l => v (ix2 p (within w l)))) bits_bottom

theorem lows_fold (v : FVec Ideal S256x2048 .f32) (w : Fin 8) (p : Fin 256) :
    lows v w (ix2 p 0) = (Finset.univ : Finset (Fin 256)).fold min ⊤ (fun l => v (ix2 p (within w l))) := by
  refine (shapeCast_a_a1_apply _ _ p 0).trans ?_
  refine (multiReduction_minimumf_eq_fold _ _ _ _ _ _).trans ?_
  refine ((reduces_S256x256_S256).fold_filter_drop_single _ _ (band v w) (ix1 p)).trans ?_
  have e : (band v w) ∘ (reduces_S256x256_S256).lift (ix1 p) = fun l => v (ix2 p (within w l)) :=
    funext fun l => (congrArg (band v w) (lift_row p l)).trans (band_apply v w p l)
  rw [e]
  exact congrArg (fun z => (Finset.univ : Finset (Fin 256)).fold min z (fun l => v (ix2 p (within w l)))) bits_top

/-- A window's greatest is at least each of its entries. -/
theorem tops_bound (v : FVec Ideal S256x2048 .f32) (w : Fin 8) (p l : Fin 256) :
    v (ix2 p (within w l)) ≤ turned (tops v) (ix2 w p) := by
  rw [turned_apply, tops_fold]
  exact (Finset.le_fold_max _).2 (Or.inr ⟨l, Finset.mem_univ l, le_rfl⟩)

/-- And it is one of them. -/
theorem tops_attained (v : FVec Ideal S256x2048 .f32) (w : Fin 8) (p : Fin 256) :
    ∃ l, v (ix2 p (within w l)) = turned (tops v) (ix2 w p) := by
  rw [turned_apply, tops_fold]
  exact fold_max_reached (fun l => v (ix2 p (within w l))) ⊥ (fun _ => bot_le) 0

/-- A window's least is at most each of its entries. -/
theorem lows_bound (v : FVec Ideal S256x2048 .f32) (w : Fin 8) (p l : Fin 256) :
    turned (lows v) (ix2 w p) ≤ v (ix2 p (within w l)) := by
  rw [turned_apply, lows_fold]
  exact (Finset.fold_min_le _).2 (Or.inr ⟨l, Finset.mem_univ l, le_rfl⟩)

/-- And it is one of them. -/
theorem lows_attained (v : FVec Ideal S256x2048 .f32) (w : Fin 8) (p : Fin 256) :
    ∃ l, v (ix2 p (within w l)) = turned (lows v) (ix2 w p) := by
  rw [turned_apply, lows_fold]
  exact fold_min_reached (fun l => v (ix2 p (within w l))) ⊤ (fun _ => le_top) 0

end Cert.KernelIdeal.Payload

end
-- ==== Proof.PrefixAt.lean ====
/- The lines before the launched region read at one place: an edge is counted where it joins the pair, and a length
   is its row's. -/
module

public import proofs.«01_k».proof.Proof.PrefixLines
public import proofs.«01_k».proof.Proof.Words
public import proofs.«01_k».proof.Proof.Scatters
public import Idealize.ShloMosaic.Lib.Pipeline.Value
public import proofs.«01_k».proof.Proof.Payload

@[expose] public section

noncomputable section

namespace Cert.Sims

open Idealize.ShloMosaic hiding ix0 ix1 ix2
open Idealize.ShloMosaic.ValueIdx

/-- Every word of the edges names a node. -/
def Named (e : (⟨2, ![2, 262144]⟩ : Shape).Idx → BitVec 32) : Prop :=
  ∀ (h : Fin 2) (k : Fin 262144), (e (ix2 h k)).toNat < 16384

/-- Some edge joins the pair. -/
def Joined (e : (⟨2, ![2, 262144]⟩ : Shape).Idx → BitVec 32) (r : Fin 2048) (n : Fin 16384) : Prop :=
  ∃ k : Fin 262144, (e (ix2 (0 : Fin 2) k)).toNat = r.val ∧ (e (ix2 (1 : Fin 2) k)).toNat = n.val

end Cert.Sims

namespace Cert.KernelIdeal.Lines

open Idealize.ShloMosaic hiding ix0 ix1 ix2
open Idealize.ShloMosaic.ValueIdx Cert.KernelIdeal Cert.KernelIdeal.Gen Cert.Words Cert.Scatters Cert.Sims
open scoped BigOperators

theorem edgeRows_apply (e : Arr S2x262144 .i32) (k : Fin 262144) : edgeRows e (ix1 k) = e (ix2 (0 : Fin 2) k) := by
  unfold edgeRows
  refine (shapeCast_apply _ _ (ix1 k) (ix2 (0 : Fin 1) k) ?_).trans ?_
  · rw [Shape.rowMajor_val_two, Shape.rowMajor_val_one]
    show 0 * 262144 + k.val = k.val
    omega
  · refine extractStridedSlice_apply _ e _ _ _ fun a => ?_
    match a with
    | ⟨0, _⟩ => rfl
    | ⟨1, _⟩ => show k.val = 0 + k.val; omega

theorem edgeColumns_apply (e : Arr S2x262144 .i32) (k : Fin 262144) : edgeColumns e (ix1 k) = e (ix2 (1 : Fin 2) k) := by
  unfold edgeColumns
  refine (shapeCast_apply _ _ (ix1 k) (ix2 (0 : Fin 1) k) ?_).trans ?_
  · rw [Shape.rowMajor_val_two, Shape.rowMajor_val_one]
    show 0 * 262144 + k.val = k.val
    omega
  · refine extractStridedSlice_apply _ e _ _ _ fun a => ?_
    match a with
    | ⟨0, _⟩ => rfl
    | ⟨1, _⟩ => show k.val = 0 + k.val; omega

/-- The flat place of an edge with ends `a` and `b`. -/
def placeOf (a b : Nat) : Nat := if a < 2048 then a * 16384 + b else 33554432

theorem placeOf_lt (a b : Nat) (ha : a < 16384) (hb : b < 16384) : placeOf a b < 2 ^ 31 := by
  unfold placeOf
  split <;> omega

theorem key_word (a b : Nat) (ha : a < 16384) (hb : b < 16384) :
    Scalar.select (IntOp.cmpi .slt (BitVec.ofNat 32 a) 2048#32)
        (IntOp.addi (IntOp.muli (BitVec.ofNat 32 a) 16384#32) (BitVec.ofNat 32 b)) 33554432#32
      = BitVec.ofNat 32 (placeOf a b) := by
  have hs : IntOp.cmpi .slt (BitVec.ofNat 32 a) 2048#32 = BitVec.ofBool (decide (a < 2048)) := by
    show BitVec.ofBool ((BitVec.ofNat 32 a).slt (BitVec.ofNat 32 2048)) = _
    rw [Routing.slt_ofNat32 (by omega) (by omega)]
  have ht : IntOp.addi (IntOp.muli (BitVec.ofNat 32 a) 16384#32) (BitVec.ofNat 32 b) = BitVec.ofNat 32 (a * 16384 + b) := by
    show BitVec.ofNat 32 a * BitVec.ofNat 32 16384 + BitVec.ofNat 32 b = _
    rw [BitVec.ofNat_add, BitVec.ofNat_mul]
  rw [hs, ht]
  unfold placeOf
  by_cases h : a < 2048
  · rw [if_pos h, decide_eq_true h]; rfl
  · rw [if_neg h, decide_eq_false h]; rfl

theorem ofNat_toNat (x : BitVec 32) : x = BitVec.ofNat 32 x.toNat := by simp

theorem edgeKeys_apply (e : Arr S2x262144 .i32) (he : Named e) (k : Fin 262144) :
    edgeKeys e (ix1 k) = BitVec.ofNat 32 (placeOf (e (ix2 (0 : Fin 2) k)).toNat (e (ix2 (1 : Fin 2) k)).toNat) := by
  rw [← key_word _ _ (he 0 k) (he 1 k), ← ofNat_toNat, ← ofNat_toNat, ← edgeRows_apply e k, ← edgeColumns_apply e k]
  rfl

theorem key_lands (e : Arr S2x262144 .i32) (he : Named e) (k : Fin 262144) (x : Fin 33554432) :
    scatter_S33554432_S262144x1_S262144_n_0_0_1.resultIdx? (ix1 k) (wrapped (edgeKeys e)) = some (ix1 x)
      ↔ placeOf (e (ix2 (0 : Fin 2) k)).toNat (e (ix2 (1 : Fin 2) k)).toNat = x.val := by
  have hp := placeOf_lt _ _ (he 0 k) (he 1 k)
  refine (lands_key (M := 33554432) (K := 262144) scatter_S33554432_S262144x1_S262144_n_0_0_1 rfl rfl rfl _ k x).trans ?_
  rw [wrapped_word _ k hp (edgeKeys_apply e he k), StableHlo.Predicate.toInt_ofNat_small _ hp]
  omega

theorem keyCounts_apply (e : Arr S2x262144 .i32) (x : Fin 33554432) :
    keyCounts (edgeKeys e) (ix1 x)
      = Ideal.ofBits .f32 0x00000000#32 + ∑ j ∈ Finset.univ.filter
          (fun j => scatter_S33554432_S262144x1_S262144_n_0_0_1.resultIdx? j (wrapped (edgeKeys e)) = some (ix1 x)),
        Ideal.ofBits .f32 0x3F800000#32 := rfl

theorem sum_ones_pos {ι : Type} (s : Finset ι) : (0 : EReal) < ∑ _j ∈ s, (1 : EReal) ↔ ∃ j, j ∈ s := by
  constructor
  · intro h
    by_contra hn
    have hs : s = ∅ := Finset.eq_empty_of_forall_notMem fun j hj => hn ⟨j, hj⟩
    rw [hs, Finset.sum_empty] at h
    exact lt_irrefl _ h
  · rintro ⟨j, hj⟩
    exact lt_of_lt_of_le zero_lt_one (Finset.single_le_sum (f := fun _ => (1 : EReal)) (fun _ _ => zero_le_one) hj)

theorem edgeCounts_pos (e : Arr S2x262144 .i32) (he : Named e) (r : Fin 2048) (n : Fin 16384) :
    (0 : EReal) < edgeCounts e (ix2 r n) ↔ Joined e r n := by
  have hr := r.isLt
  have hn := n.isLt
  have hx : edgeCounts e (ix2 r n) = keyCounts (edgeKeys e) (ix1 ⟨r.val * 16384 + n.val, by omega⟩) := by
    unfold edgeCounts
    refine shapeCast_apply _ _ _ _ ?_
    rw [Shape.rowMajor_val_two, Shape.rowMajor_val_one]
    rfl
  rw [hx, keyCounts_apply, Ideal.ofBits_zero_f32, zero_add, Ideal.ofBits_one_f32, sum_ones_pos]
  constructor
  · rintro ⟨j, hj⟩
    have hj' := (Finset.mem_filter.1 hj).2
    rw [ValueIdx.eq_ix1 j] at hj'
    have h := (key_lands e he (j 0) _).1 hj'
    have h1 := he 1 (j 0)
    unfold placeOf at h
    refine ⟨j 0, ?_⟩
    split at h <;> dsimp only at h <;> constructor <;> omega
  · rintro ⟨k, h0, h1⟩
    refine ⟨ix1 k, Finset.mem_filter.2 ⟨Finset.mem_univ _, (key_lands e he k _).2 ?_⟩⟩
    unfold placeOf
    rw [if_pos (by omega), h0, h1]

/-- A row of the column of lengths turned into a row. -/
theorem turned_lengths (x : Arr S16384x1 .f32) (n : Fin 16384) :
    shapeCast S1x16384 x shapeCasts_S16384x1_S1x16384 (ix2 (0 : Fin 1) n) = x (ix2 n (0 : Fin 1)) := by
  refine shapeCast_apply _ _ _ _ ?_
  rw [Shape.rowMajor_val_two, Shape.rowMajor_val_two]
  show n.val * 1 + 0 = 0 * 16384 + n.val
  omega

theorem firstRows_apply (x : Arr S16384x256 .f32) (r : Fin 2048) (k : Fin 256) :
    firstRows x (ix2 r k) = x (ix2 (⟨r.val, by have := r.isLt; omega⟩ : Fin 16384) k) := by
  unfold firstRows
  refine extractStridedSlice_apply _ x _ _ _ fun a => ?_
  match a with
  | ⟨0, _⟩ => show r.val = 0 + r.val; omega
  | ⟨1, _⟩ => show k.val = 0 + k.val; omega

end Cert.KernelIdeal.Lines

end
-- ==== Proof.Range.lean ====
/- Edges within the range name rows of the arrays. -/
module

public import proofs.«01_k».proof.Pre_in_range
public import proofs.«01_k».proof.Proof.Gen.Pre_in_range
public import proofs.«01_k».proof.Proof.PrefixAt

@[expose] public section

noncomputable section

namespace Cert.Sims

open Idealize.ShloMosaic hiding ix0 ix1 ix2
open Idealize.ShloMosaic.ValueIdx

theorem bit_and {a b : Bool} (h : BitVec.ofBool a &&& BitVec.ofBool b = 1#1) : a = true ∧ b = true := by
  cases a <;> cases b <;> first | exact ⟨rfl, rfl⟩ | exact absurd h (by decide)

theorem word_in_range (v : BitVec 32) (h1 : (0#32).sle v = true) (h2 : v.slt 16384#32 = true) : v.toNat < 16384 := by
  have a : (0 : Int) ≤ v.toInt := by
    have := of_decide_eq_true h1
    simpa using this
  have b : v.toInt < 16384 := by
    have := of_decide_eq_true h2
    simpa using this
  have hv := v.isLt
  rw [BitVec.toInt_eq_toNat_cond] at a b
  split at a <;> split at b <;> omega

theorem named_of_range (x0 x1 : (⟨2, ![16384, 256]⟩ : Shape).Idx → EReal) (e : (⟨2, ![2, 262144]⟩ : Shape).Idx → BitVec 32)
    (h : Cert.Pre_in_range.fn (F := Ideal) x0 x1 e = fun _ => 1#1) : Named e := fun a k => by
  have hk : BitVec.ofBool ((0#32).sle (e (ix2 a k))) &&& BitVec.ofBool ((e (ix2 a k)).slt 16384#32) = 1#1 :=
    congrFun h (ix2 a k)
  exact word_in_range _ (bit_and hk).1 (bit_and hk).2

end Cert.Sims

end
-- ==== Proof.RefAt.lean ====
/- The reference's arrays read at one place: the weighted sum of two quotients, and the two masks' terms. -/
module

public import proofs.«01_k».proof.Proof.Gen.ReferenceIdeal.Read
public import proofs.«01_k».proof.Proof.PrefixAt
public import Idealize.ShloMosaic.Lib.IdealHost
public import Idealize.ShloMosaic.Lib.Routing.OpsSet

@[expose] public section

noncomputable section

namespace Cert.Sims

theorem flag_congr {p q : Prop} [Decidable p] [Decidable q] (h : p ↔ q) : flag p = flag q := by
  unfold flag
  by_cases hp : p
  · rw [if_pos hp, if_pos (h.1 hp)]
  · rw [if_neg hp, if_neg (mt h.2 hp)]

end Cert.Sims

namespace Cert.ReferenceIdeal.At

open Idealize.ShloMosaic hiding ix0 ix1 ix2
open Idealize.ShloMosaic.ValueIdx Cert.ReferenceIdeal Cert.ReferenceIdeal.Gen Cert.ReferenceIdeal.Read Cert.Sims Cert.Scatters
open Cert.KernelIdeal.Lines (Arr ofNat_toNat)
open scoped BigOperators

variable (x0 x1 : Arr S16384x256 .f32) (e : Arr S2x262144 .i32)

/-- A row among the batch's, as a row of all. -/
abbrev whole (r : Fin 2048) : Fin 16384 := ⟨r.val, by have := r.isLt; omega⟩

theorem dot_first (r : Fin 2048) (n : Fin 16384) :
    val_main_v10 (F := Ideal) x0 (ix2 r n) = ∑ k : Fin 256, x0 (ix2 (whole r) k) * x0 (ix2 n k) := by
  rw [val_main_v10_apply]
  refine Finset.sum_congr rfl fun k _ => ?_
  rw [val_main_v0_apply, val_main_v9_apply]
  refine congrArg₂ (fun a b => x0 a * x0 b) (funext fun a => ?_) (funext fun a => ?_)
  · match a with
    | ⟨0, _⟩ => rfl
    | ⟨1, _⟩ => rfl
  · match a with
    | ⟨0, _⟩ => rfl
    | ⟨1, _⟩ => rfl

theorem dot_second (r : Fin 2048) (n : Fin 16384) :
    val_main_v22 (F := Ideal) x1 (ix2 r n) = ∑ k : Fin 256, x1 (ix2 (whole r) k) * x1 (ix2 n k) := by
  rw [val_main_v22_apply]
  refine Finset.sum_congr rfl fun k _ => ?_
  rw [val_main_v12_apply, val_main_v21_apply]
  refine congrArg₂ (fun a b => x1 a * x1 b) (funext fun a => ?_) (funext fun a => ?_)
  · match a with
    | ⟨0, _⟩ => rfl
    | ⟨1, _⟩ => rfl
  · match a with
    | ⟨0, _⟩ => rfl
    | ⟨1, _⟩ => rfl

theorem idx_head (r : Fin 2048) (n : Fin 16384) : idx_main_v4 (ix2 r n) = ix2 r (0 : Fin 1) := funext fun a => by
  match a with
  | ⟨0, _⟩ => rfl
  | ⟨1, _⟩ => rfl

theorem idx_key (r : Fin 2048) (n : Fin 16384) : idx_main_v3 (idx_main_v5 (ix2 r n)) = ix2 n (0 : Fin 1) := funext fun a => by
  match a with
  | ⟨0, _⟩ => rfl
  | ⟨1, _⟩ => rfl

theorem cosine_first (r : Fin 2048) (n : Fin 16384) :
    val_main_v11 (F := Ideal) x0 (ix2 r n)
      = cosine (∑ k : Fin 256, x0 (ix2 (whole r) k) * x0 (ix2 n k)) (val_main_v1 (F := Ideal) x0 (ix2 r (0 : Fin 1)))
          (val_main_v2 (F := Ideal) x0 (ix2 n (0 : Fin 1))) := by
  rw [val_main_v11_apply, val_main_v8_apply, val_main_v6_apply, val_main_v7_apply, val_main_cst_apply, val_main_v4_apply,
    val_main_v5_apply, val_main_v3_apply, dot_first, idx_head, idx_key]
  rfl

theorem cosine_second (r : Fin 2048) (n : Fin 16384) :
    val_main_v23 (F := Ideal) x1 (ix2 r n)
      = cosine (∑ k : Fin 256, x1 (ix2 (whole r) k) * x1 (ix2 n k)) (val_main_v13 (F := Ideal) x1 (ix2 r (0 : Fin 1)))
          (val_main_v14 (F := Ideal) x1 (ix2 n (0 : Fin 1))) := by
  rw [val_main_v23_apply, val_main_v20_apply, val_main_v18_apply, val_main_v19_apply, val_main_cst_0_apply, val_main_v16_apply,
    val_main_v17_apply, val_main_v15_apply, dot_second, show idx_main_v16 (ix2 r n) = ix2 r (0 : Fin 1) from idx_head r n,
    show idx_main_v15 (idx_main_v17 (ix2 r n)) = ix2 n (0 : Fin 1) from idx_key r n]
  rfl

theorem sim_ref (r : Fin 2048) (n : Fin 16384) :
    val_main_v28 (F := Ideal) x0 x1 (ix2 r n)
      = blend (val_main_v11 (F := Ideal) x0 (ix2 r n)) (val_main_v23 (F := Ideal) x1 (ix2 r n)) := by
  rw [val_main_v28_apply, val_main_v25_apply, val_main_v27_apply, val_main_v24_apply, val_main_v26_apply,
    val_main_cst_1_apply, val_main_cst_2_apply]
  rfl

theorem rows_apply (k : Fin 262144) : val_main_v30 (F := Ideal) e (ix1 k) = e (ix2 (0 : Fin 2) k) :=
  Cert.KernelIdeal.Lines.edgeRows_apply e k

theorem columns_apply (k : Fin 262144) : val_main_v32 (F := Ideal) e (ix1 k) = e (ix2 (1 : Fin 2) k) :=
  Cert.KernelIdeal.Lines.edgeColumns_apply e k

/-- A row outside the batch is sent one past its last. -/
def clip (a : Nat) : Nat := if a < 2048 then a else 2048

theorem clip_lt (a : Nat) : clip a < 2 ^ 31 := by
  unfold clip
  split <;> omega

theorem clip_word (a : Nat) (ha : a < 16384) :
    Scalar.select (IntOp.cmpi .slt (BitVec.ofNat 32 a) 2048#32) (BitVec.ofNat 32 a) 2048#32 = BitVec.ofNat 32 (clip a) := by
  have hs : IntOp.cmpi .slt (BitVec.ofNat 32 a) 2048#32 = BitVec.ofBool (decide (a < 2048)) := by
    show BitVec.ofBool ((BitVec.ofNat 32 a).slt (BitVec.ofNat 32 2048)) = _
    rw [Routing.slt_ofNat32 (by omega) (by omega)]
  rw [hs]
  unfold clip
  by_cases h : a < 2048
  · rw [if_pos h, decide_eq_true h]; rfl
  · rw [if_neg h, decide_eq_false h]; rfl

/-- A word with no sign is not wrapped. -/
theorem unwrapped (a : Nat) (ha : a < 2 ^ 31) (z : BitVec 32) :
    Scalar.select (IntOp.cmpi .slt (BitVec.ofNat 32 a) 0#32) z (BitVec.ofNat 32 a) = BitVec.ofNat 32 a := by
  refine Routing.wrap_of_lt _ _ ?_
  rw [BitVec.toNat_ofNat]
  exact lt_of_le_of_lt (Nat.mod_le _ _) ha

theorem safe_rows (he : Named e) (k : Fin 262144) :
    val_main_v41 (F := Ideal) e (ix1 k) = BitVec.ofNat 32 (clip (e (ix2 (0 : Fin 2) k)).toNat) := by
  have h : val_main_v35 (F := Ideal) e (ix1 k) = BitVec.ofNat 32 (clip (e (ix2 (0 : Fin 2) k)).toNat) := by
    rw [← clip_word _ (he 0 k), ← ofNat_toNat, ← rows_apply e k]
    rfl
  rw [val_main_v41_apply, val_main_v38_apply, h]
  exact unwrapped _ (clip_lt _) _

theorem safe_columns (he : Named e) (k : Fin 262144) :
    val_main_v46 (F := Ideal) e (ix1 k) = BitVec.ofNat 32 (e (ix2 (1 : Fin 2) k)).toNat := by
  rw [val_main_v46_apply, val_main_v43_apply, columns_apply]
  exact (Routing.wrap_of_lt _ _ (lt_trans (he 1 k) (by omega))).trans (ofNat_toNat _)

theorem ends_left (k : Fin 262144) : val_main_v49 (F := Ideal) e (ix2 k (0 : Fin 2)) = val_main_v41 (F := Ideal) e (ix1 k) := by
  unfold val_main_v49
  refine (concatenate_pair_apply_left (t := S262144x2) 1 (val_main_v47 (F := Ideal) e) (val_main_v48 (F := Ideal) e) concatenates_S262144x1_S262144x1_S262144x2_d1 (ix2 k (0 : Fin 2)) rfl (ix2 k (0 : Fin 1)) fun b => ?_).trans ?_
  · match b with
    | ⟨0, _⟩ => rfl
    | ⟨1, _⟩ => rfl
  · rw [val_main_v47_apply]
    refine congrArg _ (funext fun a => ?_)
    match a with
    | ⟨0, _⟩ => rfl

theorem ends_right (k : Fin 262144) : val_main_v49 (F := Ideal) e (ix2 k (1 : Fin 2)) = val_main_v46 (F := Ideal) e (ix1 k) := by
  unfold val_main_v49
  refine (concatenate_pair_apply_right (t := S262144x2) 1 (val_main_v47 (F := Ideal) e) (val_main_v48 (F := Ideal) e) concatenates_S262144x1_S262144x1_S262144x2_d1 (ix2 k (1 : Fin 2)) rfl rfl (ix2 k (0 : Fin 1)) (fun b hb => ?_) ?_).trans ?_
  · match b with
    | ⟨0, _⟩ => rfl
    | ⟨1, _⟩ => exact absurd rfl hb
  · rfl
  · rw [val_main_v48_apply]
    refine congrArg _ (funext fun a => ?_)
    match a with
    | ⟨0, _⟩ => rfl

theorem edge_lands (he : Named e) (k : Fin 262144) (r : Fin 2048) (n : Fin 16384) :
    scatter_S2048x16384_S262144x2_S262144_n_01_01_1.resultIdx? (ix1 k) (val_main_v49 (F := Ideal) e) = some (ix2 r n)
      ↔ (e (ix2 (0 : Fin 2) k)).toNat = r.val ∧ (e (ix2 (1 : Fin 2) k)).toNat = n.val := by
  have hr := r.isLt
  refine (lands_pair (R := 2048) (C := 16384) (K := 262144) scatter_S2048x16384_S262144x2_S262144_n_01_01_1 rfl rfl rfl _ k r n).trans ?_
  rw [ends_left, ends_right, safe_rows e he, safe_columns e he, StableHlo.Predicate.toInt_ofNat_small _ (clip_lt _),
    StableHlo.Predicate.toInt_ofNat_small _ (lt_trans (he 1 k) (by omega))]
  unfold clip
  split <;> omega

open Classical in
theorem edge_ref (he : Named e) (r : Fin 2048) (n : Fin 16384) :
    val_main_v51 (F := Ideal) e (ix2 r n) = flag (Joined e r n) := by
  unfold val_main_v51 flag
  by_cases h : Joined e r n
  · rw [if_pos h]
    obtain ⟨k, hk⟩ := h
    refine Routing.scatter_set_hit _ _ _ _ _ _ (fun j _ => ?_) (ix1 k) ((edge_lands e he k r n).2 hk)
    rw [val_main_v50_apply, val_main_cst_9_apply]
    exact Ideal.ofBits_one_f32
  · rw [if_neg h]
    refine (Routing.scatter_set_miss _ _ _ _ _ fun j hj => h ?_).trans ?_
    · rw [ValueIdx.eq_ix1 j] at hj
      exact ⟨j 0, (edge_lands e he (j 0) r n).1 hj⟩
    · rw [val_main_v36_apply, val_main_cst_4_apply]
      exact Ideal.ofBits_zero_f32

theorem diag_words (p : Fin 2048) :
    val_main_v58 (F := Ideal) (ix1 p) = BitVec.ofNat 32 p.val ∧ val_main_v63 (F := Ideal) (ix1 p) = BitVec.ofNat 32 p.val := by
  have hp : p.val < 2 ^ 31 := lt_trans p.isLt (by omega)
  exact ⟨unwrapped p.val hp _, unwrapped p.val hp _⟩

theorem diag_left (p : Fin 2048) : val_main_v66 (F := Ideal) (ix2 p (0 : Fin 2)) = BitVec.ofNat 32 p.val := by
  unfold val_main_v66
  refine (concatenate_pair_apply_left (t := S2048x2) 1 (val_main_v64 (F := Ideal)) (val_main_v65 (F := Ideal)) concatenates_S2048x1_S2048x1_S2048x2_d1 (ix2 p (0 : Fin 2)) rfl (ix2 p (0 : Fin 1)) fun b => ?_).trans ?_
  · match b with
    | ⟨0, _⟩ => rfl
    | ⟨1, _⟩ => rfl
  · rw [val_main_v64_apply, ← (diag_words p).1]
    refine congrArg _ (funext fun a => ?_)
    match a with
    | ⟨0, _⟩ => rfl

theorem diag_right (p : Fin 2048) : val_main_v66 (F := Ideal) (ix2 p (1 : Fin 2)) = BitVec.ofNat 32 p.val := by
  unfold val_main_v66
  refine (concatenate_pair_apply_right (t := S2048x2) 1 (val_main_v64 (F := Ideal)) (val_main_v65 (F := Ideal)) concatenates_S2048x1_S2048x1_S2048x2_d1 (ix2 p (1 : Fin 2)) rfl rfl (ix2 p (0 : Fin 1)) (fun b hb => ?_) ?_).trans ?_
  · match b with
    | ⟨0, _⟩ => rfl
    | ⟨1, _⟩ => exact absurd rfl hb
  · rfl
  · rw [val_main_v65_apply, ← (diag_words p).2]
    refine congrArg _ (funext fun a => ?_)
    match a with
    | ⟨0, _⟩ => rfl

theorem diag_lands (p : Fin 2048) (r : Fin 2048) (n : Fin 16384) :
    scatter_S2048x16384_S2048x2_S2048_n_01_01_1.resultIdx? (ix1 p) (val_main_v66 (F := Ideal)) = some (ix2 r n)
      ↔ p.val = r.val ∧ p.val = n.val := by
  have hp : p.val < 2 ^ 31 := lt_trans p.isLt (by omega)
  refine (lands_pair (R := 2048) (C := 16384) (K := 2048) scatter_S2048x16384_S2048x2_S2048_n_01_01_1 rfl rfl rfl _ p r n).trans ?_
  rw [diag_left, diag_right, StableHlo.Predicate.toInt_ofNat_small _ hp]
  omega

theorem diag_ref (r : Fin 2048) (n : Fin 16384) : val_main_v68 (F := Ideal) (ix2 r n) = flag (r.val = n.val) := by
  unfold val_main_v68 flag
  by_cases h : r.val = n.val
  · rw [if_pos h]
    refine Routing.scatter_set_hit _ _ _ _ _ _ (fun j _ => ?_) (ix1 r) ((diag_lands r r n).2 ⟨rfl, h⟩)
    rw [val_main_v67_apply, val_main_cst_15_apply]
    exact Ideal.ofBits_one_f32
  · rw [if_neg h]
    refine (Routing.scatter_set_miss _ _ _ _ _ fun j hj => h ?_).trans ?_
    · rw [ValueIdx.eq_ix1 j] at hj
      have q := (diag_lands (j 0) r n).1 hj
      omega
    · rw [val_main_v53_apply, val_main_cst_10_apply]
      exact Ideal.ofBits_zero_f32

open Classical in
theorem down_ref (he : Named e) (r : Fin 2048) (n : Fin 16384) :
    val_main_v76 (F := Ideal) x0 x1 e (ix2 r n)
      = pushDown (val_main_v28 (F := Ideal) x0 x1 (ix2 r n)) (flag (Joined e r n)) (flag (r.val = n.val)) := by
  rw [val_main_v76_apply, val_main_v71_apply, val_main_v69_apply, val_main_v70_apply, val_main_cst_16_apply, edge_ref e he, diag_ref]
  rfl

open Classical in
theorem up_ref (he : Named e) (r : Fin 2048) (n : Fin 16384) :
    val_main_v78 (F := Ideal) x0 x1 e (ix2 r n)
      = pushUp (val_main_v28 (F := Ideal) x0 x1 (ix2 r n)) (flag (Joined e r n)) := by
  rw [val_main_v78_apply, val_main_v75_apply, val_main_v73_apply, val_main_v74_apply, val_main_v72_apply, val_main_cst_18_apply,
    val_main_cst_17_apply, edge_ref e he, show (FloatOps.ofBits .f32 0x3F800000#32 : Ideal .f32) = (1 : EReal) from Ideal.ofBits_one_f32]
  rfl

end Cert.ReferenceIdeal.At

end
-- ==== Proof.Region.lean ====
/- What the kernel's region leaves in its four result arrays, as functions of the arrays it finds. -/
module

public import proofs.«01_k».proof.Proof.Payload
public import proofs.«01_k».proof.Proof.Gen.KernelIdeal.Frame
public import Idealize.ShloMosaic.Lib.Pipeline.ValueKit

@[expose] public section

noncomputable section

namespace Cert.KernelIdeal.Region

open Idealize.ShloMosaic hiding ix0 ix1 ix2
open Idealize.ShloMosaic.ValueIdx Cert.KernelIdeal Cert.KernelIdeal.Gen Cert.Sims
open Cert.KernelIdeal.Payload Idealize.SL.Sem Idealize.ShloMosaic.Pipeline
open scoped BigOperators

variable (m : ∀ l : Loc nD τ sig, Buf (Elt Ideal) l) (c : Dev nD)

/-- The arrays the region finds: the first rows of both embeddings, the embeddings, their lengths, the edges. -/
abbrev heads : FVec Ideal S2048x256 .f32 := V m c main_v28
abbrev keys : FVec Ideal S16384x256 .f32 := V m c main_arg0
abbrev heads' : FVec Ideal S2048x256 .f32 := V m c main_v29
abbrev keys' : FVec Ideal S16384x256 .f32 := V m c main_arg1
abbrev headLength : FVec Ideal S2048x1 .f32 := V m c main_v21
abbrev keyLength : FVec Ideal S1x16384 .f32 := V m c main_v23
abbrev headLength' : FVec Ideal S2048x1 .f32 := V m c main_v25
abbrev keyLength' : FVec Ideal S1x16384 .f32 := V m c main_v27
abbrev edges : FVec Ideal S2048x16384 .f32 := V m c main_v19

/-- The similarity at one place. -/
def simAt (r : Fin 2048) (n : Fin 16384) : EReal :=
  blend (cosine (∑ k : Fin 256, heads m c (ix2 r k) * keys m c (ix2 n k))
      (headLength m c (ix2 r 0)) (keyLength m c (ix2 0 n)))
    (cosine (∑ k : Fin 256, heads' m c (ix2 r k) * keys' m c (ix2 n k))
      (headLength' m c (ix2 r 0)) (keyLength' m c (ix2 0 n)))

/-- The array the additions are searched in. -/
def downAt (r : Fin 2048) (n : Fin 16384) : EReal :=
  pushDown (simAt m c r n) (flag (0 < edges m c (ix2 r n))) (flag (r.val = n.val))

/-- The array the removals are searched in. -/
def upAt (r : Fin 2048) (n : Fin 16384) : EReal :=
  pushUp (simAt m c r n) (flag (0 < edges m c (ix2 r n)))

/-- A block's row and column among the array's. -/
def row (t : Fin cfg0.N) (p : Fin 256) : Fin 2048 :=
  ⟨(grid0.coords t 0).val * 256 + p.val, by
    have h : (grid0.coords t 0).val < 8 := (grid0.coords t 0).isLt
    have := p.isLt; omega⟩

def column (t : Fin cfg0.N) (q : Fin 2048) : Fin 16384 :=
  ⟨(grid0.coords t 1).val * 2048 + q.val, by
    have h : (grid0.coords t 1).val < 8 := (grid0.coords t 1).isLt
    have := q.isLt; omega⟩

theorem index0 : ∀ t : Fin cfg0.N, win0_0.index t = ![(grid0.coords t 0).val, 0] :=
  (by decide +kernel : ∀ t : Fin grid0.N, _)
theorem index1 : ∀ t : Fin cfg0.N, win0_1.index t = ![(grid0.coords t 1).val, 0] :=
  (by decide +kernel : ∀ t : Fin grid0.N, _)
theorem index2 : ∀ t : Fin cfg0.N, win0_2.index t = ![(grid0.coords t 0).val, 0] :=
  (by decide +kernel : ∀ t : Fin grid0.N, _)
theorem index3 : ∀ t : Fin cfg0.N, win0_3.index t = ![(grid0.coords t 1).val, 0] :=
  (by decide +kernel : ∀ t : Fin grid0.N, _)
theorem index4 : ∀ t : Fin cfg0.N, win0_4.index t = ![(grid0.coords t 0).val, 0] :=
  (by decide +kernel : ∀ t : Fin grid0.N, _)
theorem index5 : ∀ t : Fin cfg0.N, win0_5.index t = ![0, (grid0.coords t 1).val] :=
  (by decide +kernel : ∀ t : Fin grid0.N, _)
theorem index6 : ∀ t : Fin cfg0.N, win0_6.index t = ![(grid0.coords t 0).val, 0] :=
  (by decide +kernel : ∀ t : Fin grid0.N, _)
theorem index7 : ∀ t : Fin cfg0.N, win0_7.index t = ![0, (grid0.coords t 1).val] :=
  (by decide +kernel : ∀ t : Fin grid0.N, _)
theorem index8 : ∀ t : Fin cfg0.N, win0_8.index t = ![(grid0.coords t 0).val, (grid0.coords t 1).val] :=
  (by decide +kernel : ∀ t : Fin grid0.N, _)
theorem index9 : ∀ t : Fin cfg0.N, win0_9.index t = ![(grid0.coords t 0).val, (grid0.coords t 1).val] :=
  (by decide +kernel : ∀ t : Fin grid0.N, _)
theorem index10 : ∀ t : Fin cfg0.N, win0_10.index t = ![(grid0.coords t 0).val, (grid0.coords t 1).val] :=
  (by decide +kernel : ∀ t : Fin grid0.N, _)
theorem index11 : ∀ t : Fin cfg0.N, win0_11.index t = ![(grid0.coords t 1).val, (grid0.coords t 0).val] :=
  (by decide +kernel : ∀ t : Fin grid0.N, _)
theorem index12 : ∀ t : Fin cfg0.N, win0_12.index t = ![(grid0.coords t 1).val, (grid0.coords t 0).val] :=
  (by decide +kernel : ∀ t : Fin grid0.N, _)

theorem block0 (t : Fin cfg0.N) (p k : Fin 256) : iblk m c 0 t (ix2 p k) = heads m c (ix2 (row t p) k) := by
  blk_simp [iblk]
  exact congrArg (heads m c) (by blk_ext [index0, row, column])

theorem block1 (t : Fin cfg0.N) (q : Fin 2048) (k : Fin 256) : iblk m c 1 t (ix2 q k) = keys m c (ix2 (column t q) k) := by
  blk_simp [iblk]
  exact congrArg (keys m c) (by blk_ext [index1, row, column])

theorem block2 (t : Fin cfg0.N) (p k : Fin 256) : iblk m c 2 t (ix2 p k) = heads' m c (ix2 (row t p) k) := by
  blk_simp [iblk]
  exact congrArg (heads' m c) (by blk_ext [index2, row, column])

theorem block3 (t : Fin cfg0.N) (q : Fin 2048) (k : Fin 256) : iblk m c 3 t (ix2 q k) = keys' m c (ix2 (column t q) k) := by
  blk_simp [iblk]
  exact congrArg (keys' m c) (by blk_ext [index3, row, column])

theorem block4 (t : Fin cfg0.N) (p : Fin 256) : iblk m c 4 t (ix2 p 0) = headLength m c (ix2 (row t p) 0) := by
  blk_simp [iblk]
  exact congrArg (headLength m c) (by blk_ext [index4, row, column])

theorem block5 (t : Fin cfg0.N) (q : Fin 2048) : iblk m c 5 t (ix2 0 q) = keyLength m c (ix2 0 (column t q)) := by
  blk_simp [iblk]
  exact congrArg (keyLength m c) (by blk_ext [index5, row, column])

theorem block6 (t : Fin cfg0.N) (p : Fin 256) : iblk m c 6 t (ix2 p 0) = headLength' m c (ix2 (row t p) 0) := by
  blk_simp [iblk]
  exact congrArg (headLength' m c) (by blk_ext [index6, row, column])

theorem block7 (t : Fin cfg0.N) (q : Fin 2048) : iblk m c 7 t (ix2 0 q) = keyLength' m c (ix2 0 (column t q)) := by
  blk_simp [iblk]
  exact congrArg (keyLength' m c) (by blk_ext [index7, row, column])

theorem block8 (t : Fin cfg0.N) (p : Fin 256) (q : Fin 2048) : iblk m c 8 t (ix2 p q) = edges m c (ix2 (row t p) (column t q)) := by
  blk_simp [iblk]
  exact congrArg (edges m c) (by blk_ext [index8, row, column])

/-- The similarities' block of a point. -/
abbrev simBlock (t : Fin cfg0.N) : FVec Ideal S256x2048 .f32 :=
  k0_pay3 (F := Ideal) (iblk m c 0 t) (iblk m c 1 t) (iblk m c 2 t) (iblk m c 3 t) (iblk m c 4 t) (iblk m c 5 t)
    (iblk m c 6 t) (iblk m c 7 t)

theorem sim_block (t : Fin cfg0.N) (p : Fin 256) (q : Fin 2048) :
    simBlock m c t (ix2 p q) = simAt m c (row t p) (column t q) := by
  unfold simBlock
  rw [sim_apply]
  simp only [block0, block1, block2, block3, block4, block5, block6, block7]
  rfl

/-- The blocks a point stores. -/
abbrev downBlock (t : Fin cfg0.N) : FVec Ideal S256x2048 .f32 :=
  k0_pay5 (F := Ideal) (BitVec.ofNat 32 (grid0.coords t 1).val) (simBlock m c t)
    (Scalar.muli (BitVec.ofNat 32 (grid0.coords t 0).val) 256#32) (iota .tc S256x2048 32 [0] iota_S256x2048_d0_w32)
    (iblk m c 8 t)

abbrev upBlock (t : Fin cfg0.N) : FVec Ideal S256x2048 .f32 := k0_pay6 (F := Ideal) (simBlock m c t) (iblk m c 8 t)

theorem down_block (t : Fin cfg0.N) (p : Fin 256) (q : Fin 2048) :
    downBlock m c t (ix2 p q) = downAt m c (row t p) (column t q) := by
  unfold downBlock
  rw [down_apply _ _ (grid0.coords t 0).isLt (grid0.coords t 1).isLt, sim_block, block8]
  rfl

theorem up_block (t : Fin cfg0.N) (p : Fin 256) (q : Fin 2048) :
    upBlock m c t (ix2 p q) = upAt m c (row t p) (column t q) := by
  unfold upBlock
  rw [up_apply, sim_block, block8]
  rfl

theorem sim_entry (t : Fin cfg0.N) :
    k0_pay14 (F := Ideal) (grid0.coords t) (iblk m c 0 t) (iblk m c 1 t) (iblk m c 2 t) (iblk m c 3 t) (iblk m c 4 t)
      (iblk m c 5 t) (iblk m c 6 t) (iblk m c 7 t) (iblk m c 8 t) = simBlock m c t := by
  unfold k0_pay14
  simp (disch := decide) only [View.ld_unit_lit]

theorem after_down (t : Fin cfg0.N) : (dats m 0 c).after 9 t = downBlock m c t := by
  rw [after0_9]
  frame_out
  rw [sim_entry]
  rfl

theorem after_up (t : Fin cfg0.N) : (dats m 0 c).after 10 t = upBlock m c t := by
  rw [after0_10]
  frame_out
  rw [sim_entry]

theorem after_tops (t : Fin cfg0.N) : (dats m 0 c).after 11 t = turned (tops (downBlock m c t)) := by
  rw [after0_11, ← tops_block]
  frame_out
  rw [sim_entry]
  rfl

theorem after_lows (t : Fin cfg0.N) : (dats m 0 c).after 12 t = turned (lows (upBlock m c t)) := by
  rw [after0_12, ← lows_block]
  frame_out
  rw [sim_entry]

/-- The region's first result. -/
theorem down_final (r : Fin 2048) (n : Fin 16384) : (dats m 0 c).arrAt 9 cfg0.N (ix2 r n) = downAt m c r n := by
  have h := (dats m 0 c).arrAt_eq_of_covers 9 (fun i => downAt m c (i 0) (i 1)) (by decide +kernel) fun t hf y => by
    blk_simp
    rw [after_down]
    refine (congrArg (downBlock m c t) (ValueIdx.eq_ix2 y)).trans ((down_block m c t (y 0) (y 1)).trans ?_)
    exact congrArg₂ (downAt m c) (Fin.ext (by blk_simp [index9, row])) (Fin.ext (by blk_simp [index9, column]))
  rw [h]
  rfl

/-- The region's second result. -/
theorem up_final (r : Fin 2048) (n : Fin 16384) : (dats m 0 c).arrAt 10 cfg0.N (ix2 r n) = upAt m c r n := by
  have h := (dats m 0 c).arrAt_eq_of_covers 10 (fun i => upAt m c (i 0) (i 1)) (by decide +kernel) fun t hf y => by
    blk_simp
    rw [after_up]
    refine (congrArg (upBlock m c t) (ValueIdx.eq_ix2 y)).trans ((up_block m c t (y 0) (y 1)).trans ?_)
    exact congrArg₂ (upAt m c) (Fin.ext (by blk_simp [index10, row])) (Fin.ext (by blk_simp [index10, column]))
  rw [h]
  rfl

end Cert.KernelIdeal.Region

end
-- ==== Proof.Agree.lean ====
/- The region's two searched arrays are the reference's. -/
module

public import proofs.«01_k».proof.Proof.RefAt
public import proofs.«01_k».proof.Proof.Region

@[expose] public section

noncomputable section

namespace Cert.KernelIdeal.Region

open Idealize.ShloMosaic hiding ix0 ix1 ix2
open Idealize.ShloMosaic.ValueIdx Cert.KernelIdeal Cert.KernelIdeal.Gen Cert.KernelIdeal.Lines Cert.Sims
open Cert.ReferenceIdeal.Read Cert.ReferenceIdeal.At Idealize.SL.Sem Idealize.ShloMosaic.StableHlo
open scoped BigOperators

variable (m : ∀ l : Loc nD τ sig, Buf (Elt Ideal) l) (c : Dev nD)

/-- The arguments. -/
abbrev arg0 : Arr S16384x256 .f32 := m ((c.tc : Thread nD τ).loc main_arg0)
abbrev arg1 : Arr S16384x256 .f32 := m ((c.tc : Thread nD τ).loc main_arg1)
abbrev arg2 : Arr S2x262144 .i32 := m ((c.tc : Thread nD τ).loc main_arg2)

/-- The buffers the lines before the region start from. -/
abbrev start : Valuation τ sig (Elt Ideal) := fun b => m (c, b)

theorem found_before (b : Ref sig .tc) : V m c b = W8 (start m c) (Proc.devRef .tc b) :=
  congrFun (all_before (start m c)) _

theorem heads_eq : heads m c = firstRows (arg0 m c) := (found_before m c _).trans (w8_v28 _)
theorem heads'_eq : heads' m c = firstRows (arg1 m c) := (found_before m c _).trans (w8_v29 _)
theorem keys_eq : keys m c = arg0 m c := V_main_arg0 m c
theorem keys'_eq : keys' m c = arg1 m c := V_main_arg1 m c
theorem edges_eq : edges m c = edgeCounts (arg2 m c) := (found_before m c _).trans (w8_v19 _)
theorem headLength_eq : headLength m c = val_main_v1 (F := Ideal) (arg0 m c) := (found_before m c _).trans (w8_v21 _)
theorem headLength'_eq : headLength' m c = val_main_v13 (F := Ideal) (arg1 m c) := (found_before m c _).trans (w8_v25 _)
theorem keyLength_eq (n : Fin 16384) : keyLength m c (ix2 (0 : Fin 1) n) = val_main_v2 (F := Ideal) (arg0 m c) (ix2 n (0 : Fin 1)) :=
  (congrFun ((found_before m c _).trans (w8_v23 _)) _).trans (turned_lengths _ n)
theorem keyLength'_eq (n : Fin 16384) : keyLength' m c (ix2 (0 : Fin 1) n) = val_main_v14 (F := Ideal) (arg1 m c) (ix2 n (0 : Fin 1)) :=
  (congrFun ((found_before m c _).trans (w8_v27 _)) _).trans (turned_lengths _ n)

theorem sim_agree (r : Fin 2048) (n : Fin 16384) :
    simAt m c r n = val_main_v28 (F := Ideal) (arg0 m c) (arg1 m c) (ix2 r n) := by
  rw [sim_ref, cosine_first, cosine_second]
  unfold simAt
  rw [keyLength_eq, keyLength'_eq, headLength_eq, headLength'_eq, heads_eq, heads'_eq, keys_eq, keys'_eq]
  simp only [firstRows_apply]

open Classical in
theorem down_agree (he : Named (arg2 m c)) (r : Fin 2048) (n : Fin 16384) :
    downAt m c r n = val_main_v76 (F := Ideal) (arg0 m c) (arg1 m c) (arg2 m c) (ix2 r n) := by
  rw [down_ref _ _ _ he]
  unfold downAt
  rw [sim_agree, edges_eq, flag_congr (edgeCounts_pos _ he r n)]

open Classical in
theorem up_agree (he : Named (arg2 m c)) (r : Fin 2048) (n : Fin 16384) :
    upAt m c r n = val_main_v78 (F := Ideal) (arg0 m c) (arg1 m c) (arg2 m c) (ix2 r n) := by
  rw [up_ref _ _ _ he]
  unfold upAt
  rw [sim_agree, edges_eq, flag_congr (edgeCounts_pos _ he r n)]

end Cert.KernelIdeal.Region

end
-- ==== Proof.Pool.lean ====
/- The lines after the launched region keep the windows of greatest maximum: the candidates' places are those
   windows' positions in increasing order, so the values and positions found are those of the full sort. -/
module

public import proofs.«01_k».proof.Proof.Words

@[expose] public section

noncomputable section

namespace Cert.Pool

open Idealize.ShloMosaic Idealize.ShloMosaic.ValueIdx Cert.Ranks Cert.Words
open Cert.KernelIdeal Cert.KernelIdeal.Gen Cert.KernelIdeal.Lines

/-- The window of a position. -/
def win (x : Fin 33554432) : Fin 131072 := ⟨x.val / 256, by have := x.isLt; omega⟩

/-- The window whose maximum the pooled array holds at `q`: the array is one row per window of a row. -/
def place (q : Fin 131072) : Fin 131072 := ⟨q.val % 2048 * 64 + q.val / 2048, by have := q.isLt; omega⟩

theorem place_injective : Function.Injective place := by
  intro a b e
  have := Fin.mk.inj_iff.1 e
  have ha := a.isLt
  have hb := b.isLt
  exact Fin.ext (by omega)

theorem place_surjective : Function.Surjective place := Finite.surjective_of_injective place_injective

section Windows
variable (x : Arr S131072 .f32)

/-- The pooled values by position. -/
abbrev pool (q : Fin 131072) : EReal := x (ix1 q)

/-- A position among the first 1024 as one of all. -/
abbrev wide (j : Fin 1024) : Fin 131072 := ⟨j.val, lt_trans j.isLt (by decide)⟩

/-- The kept windows in the order of their maxima. -/
def chosen (j : Fin 1024) : Nat := (place (descend (pool x) (wide j))).val

theorem chosen_injective : Function.Injective (chosen x) := by
  intro a b e
  have h := descend_injective _ (place_injective (Fin.ext e))
  exact Fin.ext (Fin.mk.inj_iff.1 h)

theorem chosen_lt (j : Fin 1024) : chosen x j < 131072 := (place _).isLt

theorem windows_word (j : Fin 1024) : windows (poolTop x) (ix1 j) = BitVec.ofNat 32 (chosen x j) := by
  have h := top_index x sliceFits_S131072_S1024 j (wide j) rfl
  have hlt := (descend (pool x) (wide j)).isLt
  unfold windows
  show IntOp.addi (IntOp.muli (remainder (poolTop x) (constantI S_ 32 (BitVec.ofNat 32 2048)) (ix1 j)) (BitVec.ofNat 32 64))
    (quotient (poolTop x) (constantI S_ 32 (BitVec.ofNat 32 2048)) (ix1 j)) = _
  rw [remainder_word (poolTop x) (ix1 j) (b := 2048) h (by omega) (by decide) (by decide),
    quotient_word (poolTop x) (ix1 j) (b := 2048) h (by omega) (by decide) (by decide)]
  show BitVec.ofNat 32 _ * BitVec.ofNat 32 64 + BitVec.ofNat 32 _ = _
  rw [← BitVec.ofNat_mul, ← BitVec.ofNat_add]
  rfl

/-- The kept windows in increasing order. -/
def kept (j : Fin 1024) : Nat := chosen x (descend (fun k => OrderDual.toDual (chosen x k)) j)

theorem kept_strict : StrictMono (kept x) := sorted_strict (chosen x) (chosen_injective x)

theorem kept_surjective (i : Fin 1024) : ∃ k, kept x k = chosen x i := by
  obtain ⟨k, hk⟩ := descend_surjective (fun k => OrderDual.toDual (chosen x k)) i
  exact ⟨k, congrArg (chosen x) hk⟩

theorem kept_chosen (j : Fin 1024) : ∃ z, kept x j = chosen x z :=
  ⟨descend (fun k => OrderDual.toDual (chosen x k)) j, by unfold kept; rfl⟩

theorem kept_lt (j : Fin 1024) : kept x j < 131072 := chosen_lt x _

theorem sorted_word (j : Fin 1024) : sorted (windows (poolTop x)) (ix1 j) = BitVec.ofNat 32 (kept x j) :=
  sort_words (windows (poolTop x)) (chosen x) (windows_word x) (fun k => lt_trans (chosen_lt x k) (by decide)) j

/-- The candidates' places. -/
def spot (c : Fin 262144) : Fin 33554432 :=
  ⟨kept x ⟨c.val / 256, by have := c.isLt; omega⟩ * 256 + c.val % 256, by
    have := kept_lt x ⟨c.val / 256, by have := c.isLt; omega⟩; omega⟩

theorem spot_word (c : Fin 262144) :
    flatPlaces (sorted (windows (poolTop x))) (ix1 c) = BitVec.ofNat 32 (spot x c).val :=
  flatPlaces_word (sorted (windows (poolTop x))) ⟨c.val / 256, by have := c.isLt; omega⟩
    ⟨c.val % 256, Nat.mod_lt _ (by decide)⟩ (sorted_word x _) c (by show c.val = c.val / 256 * 256 + c.val % 256; omega)

theorem spot_strict : StrictMono (spot x) := by
  intro a b hab
  show (kept x _ * 256 + a.val % 256 : Nat) < kept x _ * 256 + b.val % 256
  have hab' : a.val < b.val := hab
  rcases (show a.val / 256 < b.val / 256 ∨ a.val / 256 = b.val / 256 by omega) with h | h
  · have h1 : kept x ⟨a.val / 256, by have := a.isLt; omega⟩ < kept x ⟨b.val / 256, by have := b.isLt; omega⟩ :=
      kept_strict x h
    omega
  · have h1 : kept x ⟨a.val / 256, by have := a.isLt; omega⟩ = kept x ⟨b.val / 256, by have := b.isLt; omega⟩ :=
      congrArg (kept x) (Fin.ext h)
    omega

theorem spot_range (y : Fin 33554432) :
    (∃ c, spot x c = y) ↔ ∃ i : Fin 131072, i.val < 1024 ∧ place (descend (pool x) i) = win y := by
  constructor
  · rintro ⟨c, rfl⟩
    obtain ⟨z, hz⟩ := kept_chosen x ⟨c.val / 256, by have := c.isLt; omega⟩
    refine ⟨wide z, z.isLt, Fin.ext ?_⟩
    have h1 : (place (descend (pool x) (wide z))).val = chosen x z := rfl
    have h2 : (win (spot x c)).val = (kept x ⟨c.val / 256, by have := c.isLt; omega⟩ * 256 + c.val % 256) / 256 := rfl
    rw [h1, h2, hz]
    omega
  · rintro ⟨i, hi, he⟩
    obtain ⟨k, hk⟩ := kept_surjective x ⟨i.val, hi⟩
    refine ⟨⟨k.val * 256 + y.val % 256, by have := k.isLt; omega⟩, Fin.ext ?_⟩
    have e1 : (⟨(k.val * 256 + y.val % 256) / 256, by have := k.isLt; omega⟩ : Fin 1024) = k := Fin.ext (by
      show (k.val * 256 + y.val % 256) / 256 = k.val; omega)
    have e2 : kept x k = y.val / 256 := hk.trans (congrArg Fin.val he)
    show kept x ⟨(k.val * 256 + y.val % 256) / 256, _⟩ * 256 + (k.val * 256 + y.val % 256) % 256 = y.val
    rw [e1, e2]
    omega

/-- The candidates are the positions of the windows kept, when the pooled array holds the windows' maxima. -/
theorem spots_kept (f : Fin 33554432 → EReal) (bound : ∀ y q, win y = place q → f y ≤ x (ix1 q))
    (attained : ∀ q, ∃ y, win y = place q ∧ f y = x (ix1 q)) : Kept f win (pool x) place 1024 (spot x) where
  fits := by decide
  onto := place_surjective
  injective := place_injective
  bound := bound
  attained := attained
  mono := spot_strict x
  range := spot_range x

end Windows

/-- A position among the first 1024 as one of the array's. -/
abbrev far (j : Fin 1024) : Fin 33554432 := ⟨j.val, lt_trans j.isLt (by decide)⟩

abbrev cand (j : Fin 1024) : Fin 262144 := ⟨j.val, lt_trans j.isLt (by decide)⟩

section Results
variable (x : Arr S131072 .f32) (y : Arr S262144 .f32) (f : Fin 33554432 → EReal)
  (hy : ∀ c, y (ix1 c) = f (spot x c)) (bound : ∀ y q, win y = place q → f y ≤ x (ix1 q))
  (attained : ∀ q, ∃ y, win y = place q ∧ f y = x (ix1 q))

include hy bound attained

/-- The values found are the greatest. -/
theorem values_eq (j : Fin 1024) : candTop y (ix1 j) = f (descend f (far j)) := by
  have e : (fun c => y (ix1 c)) = fun c => f (spot x c) := funext hy
  refine (top_value y sliceFits_S262144_S1024 j (cand j) rfl).trans ?_
  rw [e, hy]
  exact (spots_kept x f bound attained).value (far j) (cand j) rfl j.isLt

theorem spot_eq (j : Fin 1024) (t : Fin 33554432) (ht : t.val = 1024) (hlt : f (descend f t) < f (descend f (far j))) :
    spot x (descend (fun c => y (ix1 c)) (cand j)) = descend f (far j) := by
  have e : (fun c => y (ix1 c)) = fun c => f (spot x c) := funext hy
  rw [e]
  exact (spots_kept x f bound attained).position (far j) t (cand j) rfl ht hlt

omit hy bound attained in
theorem candAt_word (j : Fin 1024) : candAt y (ix1 j) = BitVec.ofNat 32 (descend (fun c => y (ix1 c)) (cand j)).val :=
  top_index y sliceFits_S262144_S1024 j (cand j) rfl

omit hy bound attained in
theorem found_spot (j : Fin 1024) (d : Fin 262144) (h : candAt y (ix1 j) = BitVec.ofNat 32 d.val) :
    found (flatPlaces (sorted (windows (poolTop x)))) (candAt y) (ix1 j) = BitVec.ofNat 32 (spot x d).val :=
  (found_word _ (candAt y) j d.isLt h).trans (spot_word x d)

/-- The places found are those of the greatest values, where the value is not tied with the first left out. -/
theorem places_eq (j : Fin 1024) (t : Fin 33554432) (ht : t.val = 1024) (hlt : f (descend f t) < f (descend f (far j))) :
    found (flatPlaces (sorted (windows (poolTop x)))) (candAt y) (ix1 j) = BitVec.ofNat 32 (descend f (far j)).val := by
  rw [found_spot x y j _ (candAt_word y j), spot_eq x y f hy bound attained j t ht hlt]

end Results

/-- The candidates' values. -/
theorem take_spot (x : Arr S131072 .f32) (s : Arr S33554432 .f32) (c : Fin 262144) :
    take s (flatPlaces (sorted (windows (poolTop x)))) (ix1 c) = s (ix1 (spot x c)) :=
  take_word s _ (fun c => (spot x c).val) (fun c => (spot x c).isLt) (spot_word x) c

end Cert.Pool

end
-- ==== Proof.HostChain.lean ====
/- The lines after the launched region, one stretch after another: the four results as functions of the region's arrays. -/
module

public import proofs.«01_k».proof.Proof.HostLines

@[expose] public section

noncomputable section

namespace Cert.KernelIdeal.Lines

open Cert.KernelIdeal Cert.KernelIdeal.Gen Idealize.ShloMosaic Idealize.ShloMosaic.TcCoe Idealize.SL.Sem
  Idealize.ShloMosaic.StableHlo

/-- The positions of the greatest window maxima. -/
def topsAdd (p : Arr S64x2048 .f32) : Arr S1024 .i32 := poolTop (shapeCast S131072 p shapeCasts_S64x2048_S131072)

/-- The positions of the least window minima. -/
def topsRm (p : Arr S64x2048 .f32) : Arr S1024 .i32 :=
  poolTop (Host.negf (F := Ideal) (φ := .f32) (shapeCast S131072 p shapeCasts_S64x2048_S131072))

/-- The values of the kept windows. -/
def candAdd (p : Arr S64x2048 .f32) (x : Arr S2048x16384 .f32) : Arr S262144 .f32 :=
  take (shapeCast S33554432 x shapeCasts_S2048x16384_S33554432) (flatPlaces (sorted (windows (topsAdd p))))

/-- The values of the kept windows, negated. -/
def candRm (p : Arr S64x2048 .f32) (x : Arr S2048x16384 .f32) : Arr S262144 .f32 :=
  Host.negf (F := Ideal) (φ := .f32)
    (take (shapeCast S33554432 x shapeCasts_S2048x16384_S33554432) (flatPlaces (sorted (windows (topsRm p)))))

/-- The places of the greatest candidates. -/
def foundAdd (p : Arr S64x2048 .f32) (x : Arr S2048x16384 .f32) : Arr S1024 .i32 :=
  found (flatPlaces (sorted (windows (topsAdd p)))) (candAt (candAdd p x))

/-- The places of the greatest negated candidates. -/
def foundRm (p : Arr S64x2048 .f32) (x : Arr S2048x16384 .f32) : Arr S1024 .i32 :=
  found (flatPlaces (sorted (windows (topsRm p)))) (candAt (candRm p x))

variable (V : Valuation τ sig (Elt Ideal))

def U0 : Valuation τ sig (Elt Ideal) := after (hostOps1 (F := Ideal)) V
def U1 : Valuation τ sig (Elt Ideal) := after (hostOps1_1 (F := Ideal)) (U0 V)
def U2 : Valuation τ sig (Elt Ideal) := after (hostOps1_2 (F := Ideal)) (U1 V)
def U3 : Valuation τ sig (Elt Ideal) := after (hostOps1_3 (F := Ideal)) (U2 V)
def U4 : Valuation τ sig (Elt Ideal) := after (hostOps1_4 (F := Ideal)) (U3 V)
def U5 : Valuation τ sig (Elt Ideal) := after (hostOps1_5 (F := Ideal)) (U4 V)
def U6 : Valuation τ sig (Elt Ideal) := after (hostOps1_6 (F := Ideal)) (U5 V)
def U7 : Valuation τ sig (Elt Ideal) := after (hostOps1_7 (F := Ideal)) (U6 V)
def U8 : Valuation τ sig (Elt Ideal) := after (hostOps1_8 (F := Ideal)) (U7 V)
def U9 : Valuation τ sig (Elt Ideal) := after (hostOps1_9 (F := Ideal)) (U8 V)
def U10 : Valuation τ sig (Elt Ideal) := after (hostOps1_10 (F := Ideal)) (U9 V)
def U11 : Valuation τ sig (Elt Ideal) := after (hostOps1_11 (F := Ideal)) (U10 V)
def U12 : Valuation τ sig (Elt Ideal) := after (hostOps1_12 (F := Ideal)) (U11 V)
def U13 : Valuation τ sig (Elt Ideal) := after (hostOps1_13 (F := Ideal)) (U12 V)
def U14 : Valuation τ sig (Elt Ideal) := after (hostOps1_14 (F := Ideal)) (U13 V)
def U15 : Valuation τ sig (Elt Ideal) := after (hostOps1_15 (F := Ideal)) (U14 V)
def U16 : Valuation τ sig (Elt Ideal) := after (hostOps1_16 (F := Ideal)) (U15 V)
def U17 : Valuation τ sig (Elt Ideal) := after (hostOps1_17 (F := Ideal)) (U16 V)
def U18 : Valuation τ sig (Elt Ideal) := after (hostOps1_18 (F := Ideal)) (U17 V)
def U19 : Valuation τ sig (Elt Ideal) := after (hostOps1_19 (F := Ideal)) (U18 V)
def U20 : Valuation τ sig (Elt Ideal) := after (hostOps1_20 (F := Ideal)) (U19 V)
def U21 : Valuation τ sig (Elt Ideal) := after (hostOps1_21 (F := Ideal)) (U20 V)
def U22 : Valuation τ sig (Elt Ideal) := after (hostOps1_22 (F := Ideal)) (U21 V)
def U23 : Valuation τ sig (Elt Ideal) := after (hostOps1_23 (F := Ideal)) (U22 V)
def U24 : Valuation τ sig (Elt Ideal) := after (hostOps1_24 (F := Ideal)) (U23 V)

theorem all_lines : after (List.flatten [hostOps1 (F := Ideal), hostOps1_1 (F := Ideal), hostOps1_2 (F := Ideal), hostOps1_3 (F := Ideal), hostOps1_4 (F := Ideal), hostOps1_5 (F := Ideal), hostOps1_6 (F := Ideal), hostOps1_7 (F := Ideal), hostOps1_8 (F := Ideal), hostOps1_9 (F := Ideal), hostOps1_10 (F := Ideal), hostOps1_11 (F := Ideal), hostOps1_12 (F := Ideal), hostOps1_13 (F := Ideal), hostOps1_14 (F := Ideal), hostOps1_15 (F := Ideal), hostOps1_16 (F := Ideal), hostOps1_17 (F := Ideal), hostOps1_18 (F := Ideal), hostOps1_19 (F := Ideal), hostOps1_20 (F := Ideal), hostOps1_21 (F := Ideal), hostOps1_22 (F := Ideal), hostOps1_23 (F := Ideal), hostOps1_24 (F := Ideal)]) V = U24 V := by
  simp only [List.flatten_cons, List.flatten_nil, List.append_nil, after_append]
  rfl

theorem at0_indices : U0 V (Proc.devRef .tc main_indices) = topsAdd (V (Proc.devRef .tc main_v30_2)) :=
  line0_indices V
theorem at0_c_5 : U0 V (Proc.devRef .tc main_c_5) = constantI S_ 32 2048#32 :=
  line0_c_5 V
theorem at1_v32 : U1 V (Proc.devRef .tc main_v32) = remainder (topsAdd (V (Proc.devRef .tc main_v30_2))) (constantI S_ 32 2048#32) :=
  (line1_v32 (U0 V)).trans (by rw [at0_indices V, at0_c_5 V] <;> rfl)
theorem at2_v34 : U2 V (Proc.devRef .tc main_v34) = muli (remainder (topsAdd (V (Proc.devRef .tc main_v30_2))) (constantI S_ 32 2048#32)) (all 64#32) :=
  (line2_v34 (U1 V)).trans (by rw [at1_v32 V] <;> rfl)
theorem at2_c_7 : U2 V (Proc.devRef .tc main_c_7) = constantI S_ 32 2048#32 :=
  line2_c_7 (U1 V)
theorem at1_indices : U1 V (Proc.devRef .tc main_indices) = topsAdd (V (Proc.devRef .tc main_v30_2)) :=
  (after_of_writes_sub (r := main_indices) hostOps1_1 _ hostOps1_1_writes (by decide +kernel)).trans (at0_indices V)
theorem at2_indices : U2 V (Proc.devRef .tc main_indices) = topsAdd (V (Proc.devRef .tc main_v30_2)) :=
  (after_of_writes_sub (r := main_indices) hostOps1_2 _ hostOps1_2_writes (by decide +kernel)).trans (at1_indices V)
theorem at3_v35 : U3 V (Proc.devRef .tc main_v35) = quotient (topsAdd (V (Proc.devRef .tc main_v30_2))) (constantI S_ 32 2048#32) :=
  (line3_v35 (U2 V)).trans (by rw [at2_indices V, at2_c_7 V] <;> rfl)
theorem at3_v34 : U3 V (Proc.devRef .tc main_v34) = muli (remainder (topsAdd (V (Proc.devRef .tc main_v30_2))) (constantI S_ 32 2048#32)) (all 64#32) :=
  (after_of_writes_sub (r := main_v34) hostOps1_3 _ hostOps1_3_writes (by decide +kernel)).trans (at2_v34 V)
theorem at4_v36 : U4 V (Proc.devRef .tc main_v36) = windows (topsAdd (V (Proc.devRef .tc main_v30_2))) :=
  (line4_v36 (U3 V)).trans (by rw [at3_v34 V, at3_v35 V] <;> rfl)
theorem at0_v30_0 : U0 V (Proc.devRef .tc main_v30_0) = V (Proc.devRef .tc main_v30_0) :=
  (after_of_writes_sub (r := main_v30_0) hostOps1 _ hostOps1_writes (by decide +kernel))
theorem at1_v30_0 : U1 V (Proc.devRef .tc main_v30_0) = V (Proc.devRef .tc main_v30_0) :=
  (after_of_writes_sub (r := main_v30_0) hostOps1_1 _ hostOps1_1_writes (by decide +kernel)).trans (at0_v30_0 V)
theorem at2_v30_0 : U2 V (Proc.devRef .tc main_v30_0) = V (Proc.devRef .tc main_v30_0) :=
  (after_of_writes_sub (r := main_v30_0) hostOps1_2 _ hostOps1_2_writes (by decide +kernel)).trans (at1_v30_0 V)
theorem at3_v30_0 : U3 V (Proc.devRef .tc main_v30_0) = V (Proc.devRef .tc main_v30_0) :=
  (after_of_writes_sub (r := main_v30_0) hostOps1_3 _ hostOps1_3_writes (by decide +kernel)).trans (at2_v30_0 V)
theorem at4_v37 : U4 V (Proc.devRef .tc main_v37) = shapeCast S33554432 (V (Proc.devRef .tc main_v30_0)) shapeCasts_S2048x16384_S33554432 :=
  (line4_v37 (U3 V)).trans (by rw [at3_v30_0 V] <;> rfl)
theorem at5_v38 : U5 V (Proc.devRef .tc main_v38) = sorted (windows (topsAdd (V (Proc.devRef .tc main_v30_2)))) :=
  (line5_v38 (U4 V)).trans (by rw [at4_v36 V] <;> rfl)
theorem at6_v46 : U6 V (Proc.devRef .tc main_v46) = places (sorted (windows (topsAdd (V (Proc.devRef .tc main_v30_2))))) :=
  (line6_v46 (U5 V)).trans (by rw [at5_v38 V] <;> rfl)
theorem at6_v47 : U6 V (Proc.devRef .tc main_v47) = flatPlaces (sorted (windows (topsAdd (V (Proc.devRef .tc main_v30_2))))) :=
  (line6_v47 (U5 V)).trans (by rw [at5_v38 V] <;> rfl)
theorem at5_v37 : U5 V (Proc.devRef .tc main_v37) = shapeCast S33554432 (V (Proc.devRef .tc main_v30_0)) shapeCasts_S2048x16384_S33554432 :=
  (after_of_writes_sub (r := main_v37) hostOps1_5 _ hostOps1_5_writes (by decide +kernel)).trans (at4_v37 V)
theorem at6_v37 : U6 V (Proc.devRef .tc main_v37) = shapeCast S33554432 (V (Proc.devRef .tc main_v30_0)) shapeCasts_S2048x16384_S33554432 :=
  (after_of_writes_sub (r := main_v37) hostOps1_6 _ hostOps1_6_writes (by decide +kernel)).trans (at5_v37 V)
theorem at7_v48 : U7 V (Proc.devRef .tc main_v48) = take (shapeCast S33554432 (V (Proc.devRef .tc main_v30_0)) shapeCasts_S2048x16384_S33554432) (flatPlaces (sorted (windows (topsAdd (V (Proc.devRef .tc main_v30_2)))))) :=
  (line7_v48 (U6 V)).trans (by rw [at6_v37 V, at6_v47 V] <;> rfl)
theorem at8_values_9 : U8 V (Proc.devRef .tc main_values_9) = candTop (candAdd (V (Proc.devRef .tc main_v30_2)) (V (Proc.devRef .tc main_v30_0))) :=
  (line8_values_9 (U7 V)).trans (by rw [at7_v48 V] <;> rfl)
theorem at7_v46 : U7 V (Proc.devRef .tc main_v46) = places (sorted (windows (topsAdd (V (Proc.devRef .tc main_v30_2))))) :=
  (after_of_writes_sub (r := main_v46) hostOps1_7 _ hostOps1_7_writes (by decide +kernel)).trans (at6_v46 V)
theorem at8_v56 : U8 V (Proc.devRef .tc main_v56) = foundAdd (V (Proc.devRef .tc main_v30_2)) (V (Proc.devRef .tc main_v30_0)) :=
  (line8_v56 (U7 V)).trans (by rw [at7_v46 V, at7_v48 V] <;> rfl)
theorem at8_c_13 : U8 V (Proc.devRef .tc main_c_13) = constantI S_ 32 16384#32 :=
  line8_c_13 (U7 V)
theorem at9_v57 : U9 V (Proc.devRef .tc main_v57) = quotient (foundAdd (V (Proc.devRef .tc main_v30_2)) (V (Proc.devRef .tc main_v30_0))) (constantI S_ 32 16384#32) :=
  (line9_v57 (U8 V)).trans (by rw [at8_v56 V, at8_c_13 V] <;> rfl)
theorem at10_c_14 : U10 V (Proc.devRef .tc main_c_14) = constantI S_ 32 16384#32 :=
  line10_c_14 (U9 V)
theorem at9_v56 : U9 V (Proc.devRef .tc main_v56) = foundAdd (V (Proc.devRef .tc main_v30_2)) (V (Proc.devRef .tc main_v30_0)) :=
  (after_of_writes_sub (r := main_v56) hostOps1_9 _ hostOps1_9_writes (by decide +kernel)).trans (at8_v56 V)
theorem at10_v56 : U10 V (Proc.devRef .tc main_v56) = foundAdd (V (Proc.devRef .tc main_v30_2)) (V (Proc.devRef .tc main_v30_0)) :=
  (after_of_writes_sub (r := main_v56) hostOps1_10 _ hostOps1_10_writes (by decide +kernel)).trans (at9_v56 V)
theorem at11_v58 : U11 V (Proc.devRef .tc main_v58) = remainder (foundAdd (V (Proc.devRef .tc main_v30_2)) (V (Proc.devRef .tc main_v30_0))) (constantI S_ 32 16384#32) :=
  (line11_v58 (U10 V)).trans (by rw [at10_v56 V, at10_c_14 V] <;> rfl)
theorem at10_v57 : U10 V (Proc.devRef .tc main_v57) = quotient (foundAdd (V (Proc.devRef .tc main_v30_2)) (V (Proc.devRef .tc main_v30_0))) (constantI S_ 32 16384#32) :=
  (after_of_writes_sub (r := main_v57) hostOps1_10 _ hostOps1_10_writes (by decide +kernel)).trans (at9_v57 V)
theorem at11_v57 : U11 V (Proc.devRef .tc main_v57) = quotient (foundAdd (V (Proc.devRef .tc main_v30_2)) (V (Proc.devRef .tc main_v30_0))) (constantI S_ 32 16384#32) :=
  (after_of_writes_sub (r := main_v57) hostOps1_11 _ hostOps1_11_writes (by decide +kernel)).trans (at10_v57 V)
theorem at12_v61 : U12 V (Proc.devRef .tc main_v61) = pairs (foundAdd (V (Proc.devRef .tc main_v30_2)) (V (Proc.devRef .tc main_v30_0))) :=
  (line12_v61 (U11 V)).trans (by rw [at11_v57 V, at11_v58 V] <;> rfl)
theorem at0_v30_3 : U0 V (Proc.devRef .tc main_v30_3) = V (Proc.devRef .tc main_v30_3) :=
  (after_of_writes_sub (r := main_v30_3) hostOps1 _ hostOps1_writes (by decide +kernel))
theorem at1_v30_3 : U1 V (Proc.devRef .tc main_v30_3) = V (Proc.devRef .tc main_v30_3) :=
  (after_of_writes_sub (r := main_v30_3) hostOps1_1 _ hostOps1_1_writes (by decide +kernel)).trans (at0_v30_3 V)
theorem at2_v30_3 : U2 V (Proc.devRef .tc main_v30_3) = V (Proc.devRef .tc main_v30_3) :=
  (after_of_writes_sub (r := main_v30_3) hostOps1_2 _ hostOps1_2_writes (by decide +kernel)).trans (at1_v30_3 V)
theorem at3_v30_3 : U3 V (Proc.devRef .tc main_v30_3) = V (Proc.devRef .tc main_v30_3) :=
  (after_of_writes_sub (r := main_v30_3) hostOps1_3 _ hostOps1_3_writes (by decide +kernel)).trans (at2_v30_3 V)
theorem at4_v30_3 : U4 V (Proc.devRef .tc main_v30_3) = V (Proc.devRef .tc main_v30_3) :=
  (after_of_writes_sub (r := main_v30_3) hostOps1_4 _ hostOps1_4_writes (by decide +kernel)).trans (at3_v30_3 V)
theorem at5_v30_3 : U5 V (Proc.devRef .tc main_v30_3) = V (Proc.devRef .tc main_v30_3) :=
  (after_of_writes_sub (r := main_v30_3) hostOps1_5 _ hostOps1_5_writes (by decide +kernel)).trans (at4_v30_3 V)
theorem at6_v30_3 : U6 V (Proc.devRef .tc main_v30_3) = V (Proc.devRef .tc main_v30_3) :=
  (after_of_writes_sub (r := main_v30_3) hostOps1_6 _ hostOps1_6_writes (by decide +kernel)).trans (at5_v30_3 V)
theorem at7_v30_3 : U7 V (Proc.devRef .tc main_v30_3) = V (Proc.devRef .tc main_v30_3) :=
  (after_of_writes_sub (r := main_v30_3) hostOps1_7 _ hostOps1_7_writes (by decide +kernel)).trans (at6_v30_3 V)
theorem at8_v30_3 : U8 V (Proc.devRef .tc main_v30_3) = V (Proc.devRef .tc main_v30_3) :=
  (after_of_writes_sub (r := main_v30_3) hostOps1_8 _ hostOps1_8_writes (by decide +kernel)).trans (at7_v30_3 V)
theorem at9_v30_3 : U9 V (Proc.devRef .tc main_v30_3) = V (Proc.devRef .tc main_v30_3) :=
  (after_of_writes_sub (r := main_v30_3) hostOps1_9 _ hostOps1_9_writes (by decide +kernel)).trans (at8_v30_3 V)
theorem at10_v30_3 : U10 V (Proc.devRef .tc main_v30_3) = V (Proc.devRef .tc main_v30_3) :=
  (after_of_writes_sub (r := main_v30_3) hostOps1_10 _ hostOps1_10_writes (by decide +kernel)).trans (at9_v30_3 V)
theorem at11_v30_3 : U11 V (Proc.devRef .tc main_v30_3) = V (Proc.devRef .tc main_v30_3) :=
  (after_of_writes_sub (r := main_v30_3) hostOps1_11 _ hostOps1_11_writes (by decide +kernel)).trans (at10_v30_3 V)
theorem at12_indices_16 : U12 V (Proc.devRef .tc main_indices_16) = topsRm (V (Proc.devRef .tc main_v30_3)) :=
  (line12_indices_16 (U11 V)).trans (by rw [at11_v30_3 V] <;> rfl)
theorem at12_c_17 : U12 V (Proc.devRef .tc main_c_17) = constantI S_ 32 2048#32 :=
  line12_c_17 (U11 V)
theorem at13_v64 : U13 V (Proc.devRef .tc main_v64) = remainder (topsRm (V (Proc.devRef .tc main_v30_3))) (constantI S_ 32 2048#32) :=
  (line13_v64 (U12 V)).trans (by rw [at12_indices_16 V, at12_c_17 V] <;> rfl)
theorem at14_v66 : U14 V (Proc.devRef .tc main_v66) = muli (remainder (topsRm (V (Proc.devRef .tc main_v30_3))) (constantI S_ 32 2048#32)) (all 64#32) :=
  (line14_v66 (U13 V)).trans (by rw [at13_v64 V] <;> rfl)
theorem at14_c_19 : U14 V (Proc.devRef .tc main_c_19) = constantI S_ 32 2048#32 :=
  line14_c_19 (U13 V)
theorem at13_indices_16 : U13 V (Proc.devRef .tc main_indices_16) = topsRm (V (Proc.devRef .tc main_v30_3)) :=
  (after_of_writes_sub (r := main_indices_16) hostOps1_13 _ hostOps1_13_writes (by decide +kernel)).trans (at12_indices_16 V)
theorem at14_indices_16 : U14 V (Proc.devRef .tc main_indices_16) = topsRm (V (Proc.devRef .tc main_v30_3)) :=
  (after_of_writes_sub (r := main_indices_16) hostOps1_14 _ hostOps1_14_writes (by decide +kernel)).trans (at13_indices_16 V)
theorem at15_v67 : U15 V (Proc.devRef .tc main_v67) = quotient (topsRm (V (Proc.devRef .tc main_v30_3))) (constantI S_ 32 2048#32) :=
  (line15_v67 (U14 V)).trans (by rw [at14_indices_16 V, at14_c_19 V] <;> rfl)
theorem at15_v66 : U15 V (Proc.devRef .tc main_v66) = muli (remainder (topsRm (V (Proc.devRef .tc main_v30_3))) (constantI S_ 32 2048#32)) (all 64#32) :=
  (after_of_writes_sub (r := main_v66) hostOps1_15 _ hostOps1_15_writes (by decide +kernel)).trans (at14_v66 V)
theorem at16_v68 : U16 V (Proc.devRef .tc main_v68) = windows (topsRm (V (Proc.devRef .tc main_v30_3))) :=
  (line16_v68 (U15 V)).trans (by rw [at15_v66 V, at15_v67 V] <;> rfl)
theorem at0_v30_1 : U0 V (Proc.devRef .tc main_v30_1) = V (Proc.devRef .tc main_v30_1) :=
  (after_of_writes_sub (r := main_v30_1) hostOps1 _ hostOps1_writes (by decide +kernel))
theorem at1_v30_1 : U1 V (Proc.devRef .tc main_v30_1) = V (Proc.devRef .tc main_v30_1) :=
  (after_of_writes_sub (r := main_v30_1) hostOps1_1 _ hostOps1_1_writes (by decide +kernel)).trans (at0_v30_1 V)
theorem at2_v30_1 : U2 V (Proc.devRef .tc main_v30_1) = V (Proc.devRef .tc main_v30_1) :=
  (after_of_writes_sub (r := main_v30_1) hostOps1_2 _ hostOps1_2_writes (by decide +kernel)).trans (at1_v30_1 V)
theorem at3_v30_1 : U3 V (Proc.devRef .tc main_v30_1) = V (Proc.devRef .tc main_v30_1) :=
  (after_of_writes_sub (r := main_v30_1) hostOps1_3 _ hostOps1_3_writes (by decide +kernel)).trans (at2_v30_1 V)
theorem at4_v30_1 : U4 V (Proc.devRef .tc main_v30_1) = V (Proc.devRef .tc main_v30_1) :=
  (after_of_writes_sub (r := main_v30_1) hostOps1_4 _ hostOps1_4_writes (by decide +kernel)).trans (at3_v30_1 V)
theorem at5_v30_1 : U5 V (Proc.devRef .tc main_v30_1) = V (Proc.devRef .tc main_v30_1) :=
  (after_of_writes_sub (r := main_v30_1) hostOps1_5 _ hostOps1_5_writes (by decide +kernel)).trans (at4_v30_1 V)
theorem at6_v30_1 : U6 V (Proc.devRef .tc main_v30_1) = V (Proc.devRef .tc main_v30_1) :=
  (after_of_writes_sub (r := main_v30_1) hostOps1_6 _ hostOps1_6_writes (by decide +kernel)).trans (at5_v30_1 V)
theorem at7_v30_1 : U7 V (Proc.devRef .tc main_v30_1) = V (Proc.devRef .tc main_v30_1) :=
  (after_of_writes_sub (r := main_v30_1) hostOps1_7 _ hostOps1_7_writes (by decide +kernel)).trans (at6_v30_1 V)
theorem at8_v30_1 : U8 V (Proc.devRef .tc main_v30_1) = V (Proc.devRef .tc main_v30_1) :=
  (after_of_writes_sub (r := main_v30_1) hostOps1_8 _ hostOps1_8_writes (by decide +kernel)).trans (at7_v30_1 V)
theorem at9_v30_1 : U9 V (Proc.devRef .tc main_v30_1) = V (Proc.devRef .tc main_v30_1) :=
  (after_of_writes_sub (r := main_v30_1) hostOps1_9 _ hostOps1_9_writes (by decide +kernel)).trans (at8_v30_1 V)
theorem at10_v30_1 : U10 V (Proc.devRef .tc main_v30_1) = V (Proc.devRef .tc main_v30_1) :=
  (after_of_writes_sub (r := main_v30_1) hostOps1_10 _ hostOps1_10_writes (by decide +kernel)).trans (at9_v30_1 V)
theorem at11_v30_1 : U11 V (Proc.devRef .tc main_v30_1) = V (Proc.devRef .tc main_v30_1) :=
  (after_of_writes_sub (r := main_v30_1) hostOps1_11 _ hostOps1_11_writes (by decide +kernel)).trans (at10_v30_1 V)
theorem at12_v30_1 : U12 V (Proc.devRef .tc main_v30_1) = V (Proc.devRef .tc main_v30_1) :=
  (after_of_writes_sub (r := main_v30_1) hostOps1_12 _ hostOps1_12_writes (by decide +kernel)).trans (at11_v30_1 V)
theorem at13_v30_1 : U13 V (Proc.devRef .tc main_v30_1) = V (Proc.devRef .tc main_v30_1) :=
  (after_of_writes_sub (r := main_v30_1) hostOps1_13 _ hostOps1_13_writes (by decide +kernel)).trans (at12_v30_1 V)
theorem at14_v30_1 : U14 V (Proc.devRef .tc main_v30_1) = V (Proc.devRef .tc main_v30_1) :=
  (after_of_writes_sub (r := main_v30_1) hostOps1_14 _ hostOps1_14_writes (by decide +kernel)).trans (at13_v30_1 V)
theorem at15_v30_1 : U15 V (Proc.devRef .tc main_v30_1) = V (Proc.devRef .tc main_v30_1) :=
  (after_of_writes_sub (r := main_v30_1) hostOps1_15 _ hostOps1_15_writes (by decide +kernel)).trans (at14_v30_1 V)
theorem at16_v69 : U16 V (Proc.devRef .tc main_v69) = shapeCast S33554432 (V (Proc.devRef .tc main_v30_1)) shapeCasts_S2048x16384_S33554432 :=
  (line16_v69 (U15 V)).trans (by rw [at15_v30_1 V] <;> rfl)
theorem at17_v70 : U17 V (Proc.devRef .tc main_v70) = sorted (windows (topsRm (V (Proc.devRef .tc main_v30_3)))) :=
  (line17_v70 (U16 V)).trans (by rw [at16_v68 V] <;> rfl)
theorem at18_v78 : U18 V (Proc.devRef .tc main_v78) = places (sorted (windows (topsRm (V (Proc.devRef .tc main_v30_3))))) :=
  (line18_v78 (U17 V)).trans (by rw [at17_v70 V] <;> rfl)
theorem at18_v79 : U18 V (Proc.devRef .tc main_v79) = flatPlaces (sorted (windows (topsRm (V (Proc.devRef .tc main_v30_3))))) :=
  (line18_v79 (U17 V)).trans (by rw [at17_v70 V] <;> rfl)
theorem at17_v69 : U17 V (Proc.devRef .tc main_v69) = shapeCast S33554432 (V (Proc.devRef .tc main_v30_1)) shapeCasts_S2048x16384_S33554432 :=
  (after_of_writes_sub (r := main_v69) hostOps1_17 _ hostOps1_17_writes (by decide +kernel)).trans (at16_v69 V)
theorem at18_v69 : U18 V (Proc.devRef .tc main_v69) = shapeCast S33554432 (V (Proc.devRef .tc main_v30_1)) shapeCasts_S2048x16384_S33554432 :=
  (after_of_writes_sub (r := main_v69) hostOps1_18 _ hostOps1_18_writes (by decide +kernel)).trans (at17_v69 V)
theorem at19_v80 : U19 V (Proc.devRef .tc main_v80) = take (shapeCast S33554432 (V (Proc.devRef .tc main_v30_1)) shapeCasts_S2048x16384_S33554432) (flatPlaces (sorted (windows (topsRm (V (Proc.devRef .tc main_v30_3)))))) :=
  (line19_v80 (U18 V)).trans (by rw [at18_v69 V, at18_v79 V] <;> rfl)
theorem at20_values_21 : U20 V (Proc.devRef .tc main_values_21) = candTop (candRm (V (Proc.devRef .tc main_v30_3)) (V (Proc.devRef .tc main_v30_1))) :=
  (line20_values_21 (U19 V)).trans (by rw [at19_v80 V] <;> rfl)
theorem at19_v78 : U19 V (Proc.devRef .tc main_v78) = places (sorted (windows (topsRm (V (Proc.devRef .tc main_v30_3))))) :=
  (after_of_writes_sub (r := main_v78) hostOps1_19 _ hostOps1_19_writes (by decide +kernel)).trans (at18_v78 V)
theorem at20_v89 : U20 V (Proc.devRef .tc main_v89) = foundRm (V (Proc.devRef .tc main_v30_3)) (V (Proc.devRef .tc main_v30_1)) :=
  (line20_v89 (U19 V)).trans (by rw [at19_v78 V, at19_v80 V] <;> rfl)
theorem at20_c_25 : U20 V (Proc.devRef .tc main_c_25) = constantI S_ 32 16384#32 :=
  line20_c_25 (U19 V)
theorem at21_v90 : U21 V (Proc.devRef .tc main_v90) = quotient (foundRm (V (Proc.devRef .tc main_v30_3)) (V (Proc.devRef .tc main_v30_1))) (constantI S_ 32 16384#32) :=
  (line21_v90 (U20 V)).trans (by rw [at20_v89 V, at20_c_25 V] <;> rfl)
theorem at22_c_26 : U22 V (Proc.devRef .tc main_c_26) = constantI S_ 32 16384#32 :=
  line22_c_26 (U21 V)
theorem at21_v89 : U21 V (Proc.devRef .tc main_v89) = foundRm (V (Proc.devRef .tc main_v30_3)) (V (Proc.devRef .tc main_v30_1)) :=
  (after_of_writes_sub (r := main_v89) hostOps1_21 _ hostOps1_21_writes (by decide +kernel)).trans (at20_v89 V)
theorem at22_v89 : U22 V (Proc.devRef .tc main_v89) = foundRm (V (Proc.devRef .tc main_v30_3)) (V (Proc.devRef .tc main_v30_1)) :=
  (after_of_writes_sub (r := main_v89) hostOps1_22 _ hostOps1_22_writes (by decide +kernel)).trans (at21_v89 V)
theorem at23_v91 : U23 V (Proc.devRef .tc main_v91) = remainder (foundRm (V (Proc.devRef .tc main_v30_3)) (V (Proc.devRef .tc main_v30_1))) (constantI S_ 32 16384#32) :=
  (line23_v91 (U22 V)).trans (by rw [at22_v89 V, at22_c_26 V] <;> rfl)
theorem at22_v90 : U22 V (Proc.devRef .tc main_v90) = quotient (foundRm (V (Proc.devRef .tc main_v30_3)) (V (Proc.devRef .tc main_v30_1))) (constantI S_ 32 16384#32) :=
  (after_of_writes_sub (r := main_v90) hostOps1_22 _ hostOps1_22_writes (by decide +kernel)).trans (at21_v90 V)
theorem at23_v90 : U23 V (Proc.devRef .tc main_v90) = quotient (foundRm (V (Proc.devRef .tc main_v30_3)) (V (Proc.devRef .tc main_v30_1))) (constantI S_ 32 16384#32) :=
  (after_of_writes_sub (r := main_v90) hostOps1_23 _ hostOps1_23_writes (by decide +kernel)).trans (at22_v90 V)
theorem at24_v94 : U24 V (Proc.devRef .tc main_v94) = pairs (foundRm (V (Proc.devRef .tc main_v30_3)) (V (Proc.devRef .tc main_v30_1))) :=
  (line24_v94 (U23 V)).trans (by rw [at23_v90 V, at23_v91 V] <;> rfl)
theorem at21_values_21 : U21 V (Proc.devRef .tc main_values_21) = candTop (candRm (V (Proc.devRef .tc main_v30_3)) (V (Proc.devRef .tc main_v30_1))) :=
  (after_of_writes_sub (r := main_values_21) hostOps1_21 _ hostOps1_21_writes (by decide +kernel)).trans (at20_values_21 V)
theorem at22_values_21 : U22 V (Proc.devRef .tc main_values_21) = candTop (candRm (V (Proc.devRef .tc main_v30_3)) (V (Proc.devRef .tc main_v30_1))) :=
  (after_of_writes_sub (r := main_values_21) hostOps1_22 _ hostOps1_22_writes (by decide +kernel)).trans (at21_values_21 V)
theorem at23_values_21 : U23 V (Proc.devRef .tc main_values_21) = candTop (candRm (V (Proc.devRef .tc main_v30_3)) (V (Proc.devRef .tc main_v30_1))) :=
  (after_of_writes_sub (r := main_values_21) hostOps1_23 _ hostOps1_23_writes (by decide +kernel)).trans (at22_values_21 V)
theorem at24_v95 : U24 V (Proc.devRef .tc main_v95) = Host.negf (F := Ideal) (φ := .f32) (candTop (candRm (V (Proc.devRef .tc main_v30_3)) (V (Proc.devRef .tc main_v30_1)))) :=
  (line24_v95 (U23 V)).trans (by rw [at23_values_21 V] <;> rfl)
theorem at9_values_9 : U9 V (Proc.devRef .tc main_values_9) = candTop (candAdd (V (Proc.devRef .tc main_v30_2)) (V (Proc.devRef .tc main_v30_0))) :=
  (after_of_writes_sub (r := main_values_9) hostOps1_9 _ hostOps1_9_writes (by decide +kernel)).trans (at8_values_9 V)
theorem at10_values_9 : U10 V (Proc.devRef .tc main_values_9) = candTop (candAdd (V (Proc.devRef .tc main_v30_2)) (V (Proc.devRef .tc main_v30_0))) :=
  (after_of_writes_sub (r := main_values_9) hostOps1_10 _ hostOps1_10_writes (by decide +kernel)).trans (at9_values_9 V)
theorem at11_values_9 : U11 V (Proc.devRef .tc main_values_9) = candTop (candAdd (V (Proc.devRef .tc main_v30_2)) (V (Proc.devRef .tc main_v30_0))) :=
  (after_of_writes_sub (r := main_values_9) hostOps1_11 _ hostOps1_11_writes (by decide +kernel)).trans (at10_values_9 V)
theorem at12_values_9 : U12 V (Proc.devRef .tc main_values_9) = candTop (candAdd (V (Proc.devRef .tc main_v30_2)) (V (Proc.devRef .tc main_v30_0))) :=
  (after_of_writes_sub (r := main_values_9) hostOps1_12 _ hostOps1_12_writes (by decide +kernel)).trans (at11_values_9 V)
theorem at13_values_9 : U13 V (Proc.devRef .tc main_values_9) = candTop (candAdd (V (Proc.devRef .tc main_v30_2)) (V (Proc.devRef .tc main_v30_0))) :=
  (after_of_writes_sub (r := main_values_9) hostOps1_13 _ hostOps1_13_writes (by decide +kernel)).trans (at12_values_9 V)
theorem at14_values_9 : U14 V (Proc.devRef .tc main_values_9) = candTop (candAdd (V (Proc.devRef .tc main_v30_2)) (V (Proc.devRef .tc main_v30_0))) :=
  (after_of_writes_sub (r := main_values_9) hostOps1_14 _ hostOps1_14_writes (by decide +kernel)).trans (at13_values_9 V)
theorem at15_values_9 : U15 V (Proc.devRef .tc main_values_9) = candTop (candAdd (V (Proc.devRef .tc main_v30_2)) (V (Proc.devRef .tc main_v30_0))) :=
  (after_of_writes_sub (r := main_values_9) hostOps1_15 _ hostOps1_15_writes (by decide +kernel)).trans (at14_values_9 V)
theorem at16_values_9 : U16 V (Proc.devRef .tc main_values_9) = candTop (candAdd (V (Proc.devRef .tc main_v30_2)) (V (Proc.devRef .tc main_v30_0))) :=
  (after_of_writes_sub (r := main_values_9) hostOps1_16 _ hostOps1_16_writes (by decide +kernel)).trans (at15_values_9 V)
theorem at17_values_9 : U17 V (Proc.devRef .tc main_values_9) = candTop (candAdd (V (Proc.devRef .tc main_v30_2)) (V (Proc.devRef .tc main_v30_0))) :=
  (after_of_writes_sub (r := main_values_9) hostOps1_17 _ hostOps1_17_writes (by decide +kernel)).trans (at16_values_9 V)
theorem at18_values_9 : U18 V (Proc.devRef .tc main_values_9) = candTop (candAdd (V (Proc.devRef .tc main_v30_2)) (V (Proc.devRef .tc main_v30_0))) :=
  (after_of_writes_sub (r := main_values_9) hostOps1_18 _ hostOps1_18_writes (by decide +kernel)).trans (at17_values_9 V)
theorem at19_values_9 : U19 V (Proc.devRef .tc main_values_9) = candTop (candAdd (V (Proc.devRef .tc main_v30_2)) (V (Proc.devRef .tc main_v30_0))) :=
  (after_of_writes_sub (r := main_values_9) hostOps1_19 _ hostOps1_19_writes (by decide +kernel)).trans (at18_values_9 V)
theorem at20_values_9 : U20 V (Proc.devRef .tc main_values_9) = candTop (candAdd (V (Proc.devRef .tc main_v30_2)) (V (Proc.devRef .tc main_v30_0))) :=
  (after_of_writes_sub (r := main_values_9) hostOps1_20 _ hostOps1_20_writes (by decide +kernel)).trans (at19_values_9 V)
theorem at21_values_9 : U21 V (Proc.devRef .tc main_values_9) = candTop (candAdd (V (Proc.devRef .tc main_v30_2)) (V (Proc.devRef .tc main_v30_0))) :=
  (after_of_writes_sub (r := main_values_9) hostOps1_21 _ hostOps1_21_writes (by decide +kernel)).trans (at20_values_9 V)
theorem at22_values_9 : U22 V (Proc.devRef .tc main_values_9) = candTop (candAdd (V (Proc.devRef .tc main_v30_2)) (V (Proc.devRef .tc main_v30_0))) :=
  (after_of_writes_sub (r := main_values_9) hostOps1_22 _ hostOps1_22_writes (by decide +kernel)).trans (at21_values_9 V)
theorem at23_values_9 : U23 V (Proc.devRef .tc main_values_9) = candTop (candAdd (V (Proc.devRef .tc main_v30_2)) (V (Proc.devRef .tc main_v30_0))) :=
  (after_of_writes_sub (r := main_values_9) hostOps1_23 _ hostOps1_23_writes (by decide +kernel)).trans (at22_values_9 V)
theorem at24_values_9 : U24 V (Proc.devRef .tc main_values_9) = candTop (candAdd (V (Proc.devRef .tc main_v30_2)) (V (Proc.devRef .tc main_v30_0))) :=
  (after_of_writes_sub (r := main_values_9) hostOps1_24 _ hostOps1_24_writes (by decide +kernel)).trans (at23_values_9 V)
theorem at13_v61 : U13 V (Proc.devRef .tc main_v61) = pairs (foundAdd (V (Proc.devRef .tc main_v30_2)) (V (Proc.devRef .tc main_v30_0))) :=
  (after_of_writes_sub (r := main_v61) hostOps1_13 _ hostOps1_13_writes (by decide +kernel)).trans (at12_v61 V)
theorem at14_v61 : U14 V (Proc.devRef .tc main_v61) = pairs (foundAdd (V (Proc.devRef .tc main_v30_2)) (V (Proc.devRef .tc main_v30_0))) :=
  (after_of_writes_sub (r := main_v61) hostOps1_14 _ hostOps1_14_writes (by decide +kernel)).trans (at13_v61 V)
theorem at15_v61 : U15 V (Proc.devRef .tc main_v61) = pairs (foundAdd (V (Proc.devRef .tc main_v30_2)) (V (Proc.devRef .tc main_v30_0))) :=
  (after_of_writes_sub (r := main_v61) hostOps1_15 _ hostOps1_15_writes (by decide +kernel)).trans (at14_v61 V)
theorem at16_v61 : U16 V (Proc.devRef .tc main_v61) = pairs (foundAdd (V (Proc.devRef .tc main_v30_2)) (V (Proc.devRef .tc main_v30_0))) :=
  (after_of_writes_sub (r := main_v61) hostOps1_16 _ hostOps1_16_writes (by decide +kernel)).trans (at15_v61 V)
theorem at17_v61 : U17 V (Proc.devRef .tc main_v61) = pairs (foundAdd (V (Proc.devRef .tc main_v30_2)) (V (Proc.devRef .tc main_v30_0))) :=
  (after_of_writes_sub (r := main_v61) hostOps1_17 _ hostOps1_17_writes (by decide +kernel)).trans (at16_v61 V)
theorem at18_v61 : U18 V (Proc.devRef .tc main_v61) = pairs (foundAdd (V (Proc.devRef .tc main_v30_2)) (V (Proc.devRef .tc main_v30_0))) :=
  (after_of_writes_sub (r := main_v61) hostOps1_18 _ hostOps1_18_writes (by decide +kernel)).trans (at17_v61 V)
theorem at19_v61 : U19 V (Proc.devRef .tc main_v61) = pairs (foundAdd (V (Proc.devRef .tc main_v30_2)) (V (Proc.devRef .tc main_v30_0))) :=
  (after_of_writes_sub (r := main_v61) hostOps1_19 _ hostOps1_19_writes (by decide +kernel)).trans (at18_v61 V)
theorem at20_v61 : U20 V (Proc.devRef .tc main_v61) = pairs (foundAdd (V (Proc.devRef .tc main_v30_2)) (V (Proc.devRef .tc main_v30_0))) :=
  (after_of_writes_sub (r := main_v61) hostOps1_20 _ hostOps1_20_writes (by decide +kernel)).trans (at19_v61 V)
theorem at21_v61 : U21 V (Proc.devRef .tc main_v61) = pairs (foundAdd (V (Proc.devRef .tc main_v30_2)) (V (Proc.devRef .tc main_v30_0))) :=
  (after_of_writes_sub (r := main_v61) hostOps1_21 _ hostOps1_21_writes (by decide +kernel)).trans (at20_v61 V)
theorem at22_v61 : U22 V (Proc.devRef .tc main_v61) = pairs (foundAdd (V (Proc.devRef .tc main_v30_2)) (V (Proc.devRef .tc main_v30_0))) :=
  (after_of_writes_sub (r := main_v61) hostOps1_22 _ hostOps1_22_writes (by decide +kernel)).trans (at21_v61 V)
theorem at23_v61 : U23 V (Proc.devRef .tc main_v61) = pairs (foundAdd (V (Proc.devRef .tc main_v30_2)) (V (Proc.devRef .tc main_v30_0))) :=
  (after_of_writes_sub (r := main_v61) hostOps1_23 _ hostOps1_23_writes (by decide +kernel)).trans (at22_v61 V)
theorem at24_v61 : U24 V (Proc.devRef .tc main_v61) = pairs (foundAdd (V (Proc.devRef .tc main_v30_2)) (V (Proc.devRef .tc main_v30_0))) :=
  (after_of_writes_sub (r := main_v61) hostOps1_24 _ hostOps1_24_writes (by decide +kernel)).trans (at23_v61 V)

end Cert.KernelIdeal.Lines

end
-- ==== Proof.RegionTops.lean ====
/- What the kernel's region leaves in its third and fourth result arrays: the greatest and the least of each window. -/
module

public import proofs.«01_k».proof.Proof.Region

@[expose] public section

noncomputable section

namespace Cert.KernelIdeal.Region

open Idealize.ShloMosaic hiding ix0 ix1 ix2
open Idealize.ShloMosaic.ValueIdx Cert.KernelIdeal Cert.KernelIdeal.Gen Cert.Sims
open Cert.KernelIdeal.Payload Idealize.SL.Sem Idealize.ShloMosaic.Pipeline

/-- A value that bounds a window's entries from above and is one of them. -/
def Greatest (f : Fin 256 → EReal) (v : EReal) : Prop := (∀ l, f l ≤ v) ∧ ∃ l, f l = v

/-- A value that bounds a window's entries from below and is one of them. -/
def Least (f : Fin 256 → EReal) (v : EReal) : Prop := (∀ l, v ≤ f l) ∧ ∃ l, f l = v

variable (m : ∀ l : Loc nD τ sig, Buf (Elt Ideal) l) (c : Dev nD)

/-- One of a window's columns in the whole array. -/
def inside (w : Fin 64) (l : Fin 256) : Fin 16384 := ⟨w.val * 256 + l.val, by have := w.isLt; have := l.isLt; omega⟩

theorem tops_block_spec (t : Fin cfg0.N) (w : Fin 8) (p : Fin 256) :
    Greatest (fun l => downAt m c (row t p) (column t (within w l))) (turned (tops (downBlock m c t)) (ix2 w p)) :=
  ⟨fun l => (down_block m c t p (within w l)).symm.le.trans (tops_bound (downBlock m c t) w p l),
    let ⟨l, h⟩ := tops_attained (downBlock m c t) w p
    ⟨l, ((down_block m c t p (within w l)).symm).trans h⟩⟩

/-- The region's third result: each entry is the greatest of a window of a row. -/
theorem tops_final (w : Fin 64) (r : Fin 2048) :
    Greatest (fun l => downAt m c r (inside w l)) ((dats m 0 c).arrAt 11 cfg0.N (ix2 w r)) := by
  refine (dats m 0 c).arrAt_forall_of_covers 11 (fun i v => Greatest (fun l => downAt m c (i 1) (inside (i 0) l)) v)
    (by decide +kernel) (fun t hf y => ?_) (ix2 w r)
  blk_simp
  rw [after_tops]
  have h1 : ((win0_11.blk t).view.emb y 1 : Fin 2048) = row t (y 1) := Fin.ext (by blk_simp [index11, row])
  have h0 : ∀ l, inside ((win0_11.blk t).view.emb y 0) l = column t (within (y 0) l) := fun l => Fin.ext (by
    show ((win0_11.blk t).view.emb y 0 : Nat) * 256 + l.val = (grid0.coords t 1).val * 2048 + ((y 0).val * 256 + l.val)
    blk_simp [index11]
    omega)
  have h := tops_block_spec m c t (y 0) (y 1)
  have e : (fun l => downAt m c ((win0_11.blk t).view.emb y 1) (inside ((win0_11.blk t).view.emb y 0) l))
      = fun l => downAt m c (row t (y 1)) (column t (within (y 0) l)) := funext fun l => congrArg₂ (downAt m c) h1 (h0 l)
  exact Eq.mpr (congrArg₂ Greatest e (congrArg (turned (tops (downBlock m c t))) (ValueIdx.eq_ix2 y))) h

theorem lows_block_spec (t : Fin cfg0.N) (w : Fin 8) (p : Fin 256) :
    Least (fun l => upAt m c (row t p) (column t (within w l))) (turned (lows (upBlock m c t)) (ix2 w p)) :=
  ⟨fun l => (lows_bound (upBlock m c t) w p l).trans (up_block m c t p (within w l)).le,
    let ⟨l, h⟩ := lows_attained (upBlock m c t) w p
    ⟨l, ((up_block m c t p (within w l)).symm).trans h⟩⟩

/-- The region's fourth result: each entry is the least of a window of a row. -/
theorem lows_final (w : Fin 64) (r : Fin 2048) :
    Least (fun l => upAt m c r (inside w l)) ((dats m 0 c).arrAt 12 cfg0.N (ix2 w r)) := by
  refine (dats m 0 c).arrAt_forall_of_covers 12 (fun i v => Least (fun l => upAt m c (i 1) (inside (i 0) l)) v)
    (by decide +kernel) (fun t hf y => ?_) (ix2 w r)
  blk_simp
  rw [after_lows]
  have h1 : ((win0_12.blk t).view.emb y 1 : Fin 2048) = row t (y 1) := Fin.ext (by blk_simp [index12, row])
  have h0 : ∀ l, inside ((win0_12.blk t).view.emb y 0) l = column t (within (y 0) l) := fun l => Fin.ext (by
    show ((win0_12.blk t).view.emb y 0 : Nat) * 256 + l.val = (grid0.coords t 1).val * 2048 + ((y 0).val * 256 + l.val)
    blk_simp [index12]
    omega)
  have h := lows_block_spec m c t (y 0) (y 1)
  have e : (fun l => upAt m c ((win0_12.blk t).view.emb y 1) (inside ((win0_12.blk t).view.emb y 0) l))
      = fun l => upAt m c (row t (y 1)) (column t (within (y 0) l)) := funext fun l => congrArg₂ (upAt m c) h1 (h0 l)
  exact Eq.mpr (congrArg₂ Least e (congrArg (turned (lows (upBlock m c t))) (ValueIdx.eq_ix2 y))) h

end Cert.KernelIdeal.Region

end
-- ==== Proof.Glue.lean ====
/- What the search finds, from what is known of the searched array and of its windows' greatest values. -/
module

public import proofs.«01_k».proof.Proof.Pool
public import proofs.«01_k».proof.Proof.HostChain
public import proofs.«01_k».proof.Proof.RegionTops

@[expose] public section

noncomputable section

namespace Cert.Glue

open Idealize.ShloMosaic hiding ix0 ix1 ix2
open Idealize.ShloMosaic.ValueIdx Cert.KernelIdeal Cert.KernelIdeal.Gen Cert.KernelIdeal.Lines
open Cert.Ranks Cert.Pool
open Cert.KernelIdeal.Region (inside Greatest Least)

/-- A place in the array read as one row. -/
def flat (r : Fin 2048) (n : Fin 16384) : Fin 33554432 :=
  ⟨r.val * 16384 + n.val, by have := r.isLt; have := n.isLt; omega⟩

/-- The window a pooled value belongs to, in its row. -/
def across (q : Fin 131072) : Fin 64 := ⟨q.val / 2048, by have := q.isLt; omega⟩

/-- The row a pooled value belongs to. -/
def down (q : Fin 131072) : Fin 2048 := ⟨q.val % 2048, by omega⟩

theorem flat_surj (y : Fin 33554432) : ∃ r n, y = flat r n :=
  ⟨⟨y.val / 16384, by have := y.isLt; omega⟩, ⟨y.val % 16384, by omega⟩, Fin.ext (by show y.val = y.val / 16384 * 16384 + y.val % 16384; omega)⟩

theorem win_flat (q : Fin 131072) (l : Fin 256) : win (flat (down q) (inside (across q) l)) = place q :=
  Fin.ext (by
    show (q.val % 2048 * 16384 + (q.val / 2048 * 256 + l.val)) / 256 = q.val % 2048 * 64 + q.val / 2048
    have := l.isLt
    omega)

theorem flat_of_win (y : Fin 33554432) (q : Fin 131072) (h : win y = place q) : ∃ l, y = flat (down q) (inside (across q) l) := by
  have h' : y.val / 256 = q.val % 2048 * 64 + q.val / 2048 := congrArg Fin.val h
  refine ⟨⟨y.val % 256, by omega⟩, Fin.ext ?_⟩
  show y.val = q.val % 2048 * 16384 + (q.val / 2048 * 256 + y.val % 256)
  omega

theorem long_apply (x : Arr S2048x16384 .f32) (r : Fin 2048) (n : Fin 16384) :
    shapeCast S33554432 x shapeCasts_S2048x16384_S33554432 (ix1 (flat r n)) = x (ix2 r n) := by
  refine shapeCast_apply _ _ _ _ ?_
  rw [Shape.rowMajor_val_one, Shape.rowMajor_val_two]
  rfl

theorem pooled_apply (p : Arr S64x2048 .f32) (q : Fin 131072) :
    shapeCast S131072 p shapeCasts_S64x2048_S131072 (ix1 q) = p (ix2 (across q) (down q)) := by
  refine shapeCast_apply _ _ _ _ ?_
  rw [Shape.rowMajor_val_one, Shape.rowMajor_val_two]
  show q.val / 2048 * 2048 + q.val % 2048 = q.val
  omega

section Windows

variable (s : Arr S131072 .f32) (f : Fin 33554432 → EReal)
  (hs : ∀ q, Greatest (fun l => f (flat (down q) (inside (across q) l))) (s (ix1 q)))
include hs

theorem bound (y : Fin 33554432) (q : Fin 131072) (h : win y = place q) : f y ≤ s (ix1 q) :=
  let ⟨l, e⟩ := flat_of_win y q h
  (congrArg f e).le.trans ((hs q).1 l)

theorem attained (q : Fin 131072) : ∃ y, win y = place q ∧ f y = s (ix1 q) :=
  let ⟨l, e⟩ := (hs q).2
  ⟨flat (down q) (inside (across q) l), win_flat q l, e⟩

end Windows

section Add

variable (p : Arr S64x2048 .f32) (x : Arr S2048x16384 .f32) (f : Fin 33554432 → EReal)
  (hx : ∀ r n, x (ix2 r n) = f (flat r n))
  (hp : ∀ w r, Greatest (fun l => f (flat r (inside w l))) (p (ix2 w r)))

include hx in
theorem cand_add (d : Fin 262144) :
    candAdd p x (ix1 d) = f (spot (shapeCast S131072 p shapeCasts_S64x2048_S131072) d) := by
  refine (take_spot _ _ d).trans ?_
  obtain ⟨r, n, e⟩ := flat_surj (spot (shapeCast S131072 p shapeCasts_S64x2048_S131072) d)
  rw [e, long_apply, hx]

include hp in
theorem pooled_add (q : Fin 131072) :
    Greatest (fun l => f (flat (down q) (inside (across q) l))) (shapeCast S131072 p shapeCasts_S64x2048_S131072 (ix1 q)) :=
  (congrArg (Greatest fun l => f (flat (down q) (inside (across q) l))) (pooled_apply p q)).mpr (hp (across q) (down q))

include hx hp

theorem add_values (j : Fin 1024) : candTop (candAdd p x) (ix1 j) = f (descend f (far j)) :=
  values_eq _ _ f (cand_add p x f hx) (bound _ f (pooled_add p f hp)) (attained _ f (pooled_add p f hp)) j

theorem add_places (j : Fin 1024) (t : Fin 33554432) (ht : t.val = 1024) (hlt : f (descend f t) < f (descend f (far j))) :
    foundAdd p x (ix1 j) = BitVec.ofNat 32 (descend f (far j)).val :=
  places_eq _ _ f (cand_add p x f hx) (bound _ f (pooled_add p f hp)) (attained _ f (pooled_add p f hp)) j t ht hlt

end Add

section Rm

variable (p : Arr S64x2048 .f32) (x : Arr S2048x16384 .f32) (f : Fin 33554432 → EReal)
  (hx : ∀ r n, -x (ix2 r n) = f (flat r n))
  (hp : ∀ w r, Least (fun l => x (ix2 r (inside w l))) (p (ix2 w r)))

theorem negated {n : ℕ} (y : Arr ⟨1, ![n]⟩ .f32) (i : Fin n) : Host.negf (F := Ideal) (φ := .f32) y (ix1 i) = -y (ix1 i) := rfl

include hx in
theorem cand_rm (d : Fin 262144) :
    candRm p x (ix1 d) = f (spot (Host.negf (F := Ideal) (φ := .f32) (shapeCast S131072 p shapeCasts_S64x2048_S131072)) d) := by
  refine (negated _ d).trans ((congrArg Neg.neg (take_spot _ _ d)).trans ?_)
  obtain ⟨r, n, e⟩ := flat_surj (spot (Host.negf (F := Ideal) (φ := .f32) (shapeCast S131072 p shapeCasts_S64x2048_S131072)) d)
  rw [e, long_apply, hx]

include hx hp

theorem pooled_rm (q : Fin 131072) :
    Greatest (fun l => f (flat (down q) (inside (across q) l)))
      (Host.negf (F := Ideal) (φ := .f32) (shapeCast S131072 p shapeCasts_S64x2048_S131072) (ix1 q)) := by
  have e : Host.negf (F := Ideal) (φ := .f32) (shapeCast S131072 p shapeCasts_S64x2048_S131072) (ix1 q)
      = -p (ix2 (across q) (down q)) := (negated _ q).trans (congrArg Neg.neg (pooled_apply p q))
  refine (congrArg (Greatest fun l => f (flat (down q) (inside (across q) l))) e).mpr ⟨fun l => ?_, ?_⟩
  · show f (flat (down q) (inside (across q) l)) ≤ -p (ix2 (across q) (down q))
    rw [← hx]
    exact EReal.neg_le_neg_iff.2 ((hp (across q) (down q)).1 l)
  · obtain ⟨l, h⟩ := (hp (across q) (down q)).2
    exact ⟨l, (hx _ _).symm.trans (congrArg Neg.neg h)⟩

theorem rm_values (j : Fin 1024) : candTop (candRm p x) (ix1 j) = f (descend f (far j)) :=
  values_eq _ _ f (cand_rm p x f hx) (bound _ f (pooled_rm p x f hx hp)) (attained _ f (pooled_rm p x f hx hp)) j

theorem rm_places (j : Fin 1024) (t : Fin 33554432) (ht : t.val = 1024) (hlt : f (descend f t) < f (descend f (far j))) :
    foundRm p x (ix1 j) = BitVec.ofNat 32 (descend f (far j)).val :=
  places_eq _ _ f (cand_rm p x f hx) (bound _ f (pooled_rm p x f hx hp)) (attained _ f (pooled_rm p x f hx hp)) j t ht hlt

end Rm

end Cert.Glue

end
-- ==== Proof.Gaps.lean ====
/- Where a place is compared: the value found there is above the first one left out. -/
module

public import proofs.«01_k».proof.On_untied
public import proofs.«01_k».proof.Proof.Gen.On_untied
public import proofs.«01_k».proof.Proof.Gen.ReferenceIdeal.Read
public import proofs.«01_k».proof.Proof.Pool

@[expose] public section

noncomputable section

namespace Cert.Gaps

open Idealize.ShloMosaic Idealize.ShloMosaic.ValueIdx Cert.On_untied Cert.ReferenceIdeal.Read Cert.Ranks Cert.Words
open Cert.KernelIdeal.Lines (Arr)
open Cert.On_untied.Facts

variable (x0 x1 : Arr S16384x256 .f32) (e : Arr S2x262144 .i32)

/-- Which of the 1024 greatest are above the next one. -/
def above (x : Arr S33554432 .f32) : IVec S1024 1 :=
  cmpf (F := Ideal) (φ := .f32) .ogt
    (extractStridedSlice S1024 ![0] (Host.topK S1025 0 (FloatOps.cmpfTotal (F := Ideal) (φ := .f32) .gt) x sliceFits_S33554432_S1025).1 slices_S1025_S1024_0)
    (broadcastInDim S1024 ![] bcast_S_S1024 (shapeCast S_
      (extractStridedSlice S1 ![1024] (Host.topK S1025 0 (FloatOps.cmpfTotal (F := Ideal) (φ := .f32) .gt) x sliceFits_S33554432_S1025).1 slices_S1025_S1_1024)
      shapeCasts_S1_S_))

/-- The same, for both columns of a place. -/
def gaps (x : Arr S33554432 .f32) : IVec S1024x2 1 :=
  broadcastInDim S1024x2 ![0, 1] bcast_S1024x1_S1024x2_0_1 (broadcastInDim S1024x1 ![0] bcast_S1024_S1024x1_0 (above x))

theorem fn_to1 : fn (F := Ideal) x0 x1 e
    = fn_part1 (F := Ideal) e (val_main_v11 (F := Ideal) x0) (val_main_v12 (F := Ideal) x1) (val_main_v20 (F := Ideal) x1) (val_main_v21 (F := Ideal) x1) := rfl

theorem fn_to2 : fn_part1 (F := Ideal) e (val_main_v11 (F := Ideal) x0) (val_main_v12 (F := Ideal) x1) (val_main_v20 (F := Ideal) x1) (val_main_v21 (F := Ideal) x1)
    = fn_part2 (F := Ideal) (val_main_v28 (F := Ideal) x0 x1) (val_main_v32 (F := Ideal) e) (val_main_v35 (F := Ideal) e) (val_main_v36 (F := Ideal)) (val_main_v38 (F := Ideal) e) (val_main_c_6 (F := Ideal)) := rfl

theorem fn_to3 : fn_part2 (F := Ideal) (val_main_v28 (F := Ideal) x0 x1) (val_main_v32 (F := Ideal) e) (val_main_v35 (F := Ideal) e) (val_main_v36 (F := Ideal)) (val_main_v38 (F := Ideal) e) (val_main_c_6 (F := Ideal))
    = fn_part3 (F := Ideal) (val_main_v28 (F := Ideal) x0 x1) (val_main_v51 (F := Ideal) e) (val_main_v52 (F := Ideal)) (val_main_v53 (F := Ideal)) (val_main_v55 (F := Ideal)) (val_main_v56 (F := Ideal)) := rfl

theorem fn_to4 : fn_part3 (F := Ideal) (val_main_v28 (F := Ideal) x0 x1) (val_main_v51 (F := Ideal) e) (val_main_v52 (F := Ideal)) (val_main_v53 (F := Ideal)) (val_main_v55 (F := Ideal)) (val_main_v56 (F := Ideal))
    = fn_part4 (F := Ideal) (val_main_v28 (F := Ideal) x0 x1) (val_main_v77 (F := Ideal) x0 x1 e) (val_main_v73 (F := Ideal) e) := rfl

theorem fn_last : fn (F := Ideal) x0 x1 e
    = fn_part4 (F := Ideal) (val_main_v28 (F := Ideal) x0 x1) (val_main_v77 (F := Ideal) x0 x1 e) (val_main_v73 (F := Ideal) e) :=
  (fn_to1 x0 x1 e).trans ((fn_to2 x0 x1 e).trans ((fn_to3 x0 x1 e).trans (fn_to4 x0 x1 e)))

theorem gaps_add : (fn (F := Ideal) x0 x1 e).2.1 = gaps (val_main_v77 (F := Ideal) x0 x1 e) := by
  rw [fn_last]
  rfl

theorem gaps_rm : (fn (F := Ideal) x0 x1 e).2.2.2 = gaps (val_main_v80 (F := Ideal) x0 x1 e) := by
  rw [fn_last]
  rfl

theorem gaps_apply (x : Arr S33554432 .f32) (j : Fin 1024) (b : Fin 2) : gaps x (ix2 j b) = above x (ix1 j) := by
  unfold gaps
  refine (broadcastInDim_apply _ _ _ _ (ix2 j (0 : Fin 1)) fun a => ?_).trans (broadcastInDim_apply _ _ _ _ (ix1 j) fun a => ?_)
  · match a with
    | ⟨0, _⟩ => rfl
    | ⟨1, _⟩ => rfl
  · match a with
    | ⟨0, _⟩ => rfl

theorem ofBool_decide_one {p : Prop} [Decidable p] (h : BitVec.ofBool (decide p) = 1#1) : p := by
  by_cases hp : p
  · exact hp
  · rw [decide_eq_false hp] at h
    exact absurd h (by decide)

theorem gap (x : Arr S33554432 .f32) (j : Fin 1024) (b : Fin 2) (j' t : Fin 33554432) (hj : j'.val = j.val) (ht : t.val = 1024)
    (h : gaps x (ix2 j b) = 1#1) :
    x (ix1 (descend (fun q => x (ix1 q)) t)) < x (ix1 (descend (fun q => x (ix1 q)) j')) := by
  rw [gaps_apply] at h
  have hl : extractStridedSlice S1024 ![0] (Host.topK S1025 0 (FloatOps.cmpfTotal (F := Ideal) (φ := .f32) .gt) x sliceFits_S33554432_S1025).1 slices_S1025_S1024_0 (ix1 j)
      = x (ix1 (descend (fun q => x (ix1 q)) j')) := by
    refine (extractStridedSlice_apply _ _ _ _ (ix1 (⟨j.val, by have := j.isLt; omega⟩ : Fin 1025)) fun a => ?_).trans
      (top_value x _ (⟨j.val, by have := j.isLt; omega⟩ : Fin 1025) j' hj)
    match a with
    | ⟨0, _⟩ => show j.val = 0 + j.val; omega
  have hr : broadcastInDim S1024 ![] bcast_S_S1024 (shapeCast S_
      (extractStridedSlice S1 ![1024] (Host.topK S1025 0 (FloatOps.cmpfTotal (F := Ideal) (φ := .f32) .gt) x sliceFits_S33554432_S1025).1 slices_S1025_S1_1024)
      shapeCasts_S1_S_) (ix1 j) = x (ix1 (descend (fun q => x (ix1 q)) t)) := by
    refine (broadcastInDim_apply _ _ _ _ (fun a => a.elim0) fun a => a.elim0).trans ?_
    refine (shapeCast_apply _ _ _ (ix1 (0 : Fin 1)) ?_).trans ?_
    · have h1 := ((⟨1, ![1]⟩ : Shape).rowMajor (ix1 (0 : Fin 1))).isLt
      rw [Shape.rowMajor_val_one]
      rfl
    · refine (extractStridedSlice_apply _ _ _ _ (ix1 (⟨1024, by omega⟩ : Fin 1025)) fun a => ?_).trans
        (top_value x _ (⟨1024, by omega⟩ : Fin 1025) t ht)
      match a with
      | ⟨0, _⟩ => rfl
  rw [← hl, ← hr]
  exact ofBool_decide_one h

end Cert.Gaps

end
-- ==== Proof.RefTops.lean ====
/- The reference's results, read by the places of the greatest. -/
module

public import proofs.«01_k».proof.Proof.Gaps
public import proofs.«01_k».proof.Proof.HostLines

@[expose] public section

noncomputable section

namespace Cert.ReferenceIdeal.At

open Idealize.ShloMosaic Idealize.ShloMosaic.ValueIdx Cert.ReferenceIdeal Cert.ReferenceIdeal.Gen Cert.ReferenceIdeal.Read Cert.Ranks Cert.Words Cert.Pool
open Cert.KernelIdeal.Lines (Arr pairs)

variable (x0 x1 : Arr S16384x256 .f32) (e : Arr S2x262144 .i32)

/-- The searched array of the first two results. -/
def gains (q : Fin 33554432) : EReal := val_main_v77 (F := Ideal) x0 x1 e (ix1 q)

/-- The searched array of the last two results. -/
def losses (q : Fin 33554432) : EReal := val_main_v80 (F := Ideal) x0 x1 e (ix1 q)

theorem ref_values (j : Fin 1024) : val_main_values (F := Ideal) x0 x1 e (ix1 j) = gains x0 x1 e (descend (gains x0 x1 e) (far j)) :=
  top_value (val_main_v77 (F := Ideal) x0 x1 e) sliceFits_S33554432_S1024 j (far j) rfl

theorem ref_places (j : Fin 1024) : val_main_indices (F := Ideal) x0 x1 e (ix1 j) = BitVec.ofNat 32 (descend (gains x0 x1 e) (far j)).val :=
  top_index (val_main_v77 (F := Ideal) x0 x1 e) sliceFits_S33554432_S1024 j (far j) rfl

theorem ref_values_rm (j : Fin 1024) : val_main_values_19 (F := Ideal) x0 x1 e (ix1 j) = losses x0 x1 e (descend (losses x0 x1 e) (far j)) :=
  top_value (val_main_v80 (F := Ideal) x0 x1 e) sliceFits_S33554432_S1024 j (far j) rfl

theorem ref_places_rm (j : Fin 1024) : val_main_indices_20 (F := Ideal) x0 x1 e (ix1 j) = BitVec.ofNat 32 (descend (losses x0 x1 e) (far j)).val :=
  top_index (val_main_v80 (F := Ideal) x0 x1 e) sliceFits_S33554432_S1024 j (far j) rfl

theorem ref_pairs : val_main_v86 (F := Ideal) x0 x1 e = pairs (val_main_indices (F := Ideal) x0 x1 e) := rfl

theorem ref_pairs_rm : val_main_v91 (F := Ideal) x0 x1 e = pairs (val_main_indices_20 (F := Ideal) x0 x1 e) := rfl

end Cert.ReferenceIdeal.At

end
-- ==== Proof.Outcome.lean ====
/- The kernel's four results are the reference's: the values everywhere, the places where they are not tied. -/
module

public import proofs.«01_k».proof.Proof.Agree
public import proofs.«01_k».proof.Proof.Glue
public import proofs.«01_k».proof.Proof.RefTops
public import proofs.«01_k».proof.Proof.Gen.KernelIdeal.Frame

@[expose] public section

noncomputable section

namespace Cert.KernelIdeal.Region

open Idealize.ShloMosaic hiding ix0 ix1 ix2
open Idealize.ShloMosaic.ValueIdx Cert.KernelIdeal Cert.KernelIdeal.Gen Cert.KernelIdeal.Lines Cert.Sims
open Cert.ReferenceIdeal.Read Cert.ReferenceIdeal.At Idealize.SL.Sem Idealize.ShloMosaic.StableHlo
open Cert.Ranks Cert.Pool Cert.Glue Cert.Gaps

variable (m : ∀ l : Loc nD τ sig, Buf (Elt Ideal) l) (c : Dev nD)

/-- The region's four result arrays. -/
abbrev downs : Arr S2048x16384 .f32 := (dats m 0 c).arrAt 9 cfg0.N
abbrev ups : Arr S2048x16384 .f32 := (dats m 0 c).arrAt 10 cfg0.N
abbrev tallest : Arr S64x2048 .f32 := (dats m 0 c).arrAt 11 cfg0.N
abbrev lowest : Arr S64x2048 .f32 := (dats m 0 c).arrAt 12 cfg0.N

/-- The buffers as the region leaves them. -/
def left : Valuation τ sig (Elt Ideal) :=
  Pipeline.withArrays (cfgs 0).spec c (V0 m c) fun w => (dats m 0 c).arrAt w (cfgs 0).N

theorem arrays_injective : Function.Injective (Pipeline.arrRef spec0) := by decide

theorem left_array (w : Fin cfg0.W) : left m c (Proc.devRef .tc (Pipeline.arrRef spec0 w)) = (dats m 0 c).arrAt w cfg0.N :=
  Pipeline.withArrays_arr spec0 arrays_injective c (V0 m c) (fun w => (dats m 0 c).arrAt w (cfgs 0).N) w

theorem left_downs : left m c (Proc.devRef .tc main_v30_0) = downs m c := left_array m c 9
theorem left_ups : left m c (Proc.devRef .tc main_v30_1) = ups m c := left_array m c 10
theorem left_tallest : left m c (Proc.devRef .tc main_v30_2) = tallest m c := left_array m c 11
theorem left_lowest : left m c (Proc.devRef .tc main_v30_3) = lowest m c := left_array m c 12

/-- The program's buffers at its end. -/
abbrev ends (b : Ref sig .tc) : b.ty.Contents (Elt Ideal) :=
  Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24] c b

theorem ends_eq (b : Ref sig .tc) : ends m c b = U24 (left m c) (Proc.devRef .tc b) := congrFun (all_lines (left m c)) _

theorem ends_values_9 : ends m c main_values_9 = candTop (candAdd (tallest m c) (downs m c)) := by
  refine (ends_eq m c _).trans ((at24_values_9 _).trans ?_)
  rw [left_downs, left_tallest]

theorem ends_v61 : ends m c main_v61 = pairs (foundAdd (tallest m c) (downs m c)) := by
  refine (ends_eq m c _).trans ((at24_v61 _).trans ?_)
  rw [left_downs, left_tallest]

theorem ends_v95 : ends m c main_v95 = Host.negf (F := Ideal) (φ := .f32) (candTop (candRm (lowest m c) (ups m c))) := by
  refine (ends_eq m c _).trans ((at24_v95 _).trans ?_)
  rw [left_ups, left_lowest]

theorem ends_v94 : ends m c main_v94 = pairs (foundRm (lowest m c) (ups m c)) := by
  refine (ends_eq m c _).trans ((at24_v94 _).trans ?_)
  rw [left_ups, left_lowest]

section Flat

variable (x0 x1 : Arr S16384x256 .f32) (e : Arr S2x262144 .i32)

theorem gains_flat (r : Fin 2048) (n : Fin 16384) : gains x0 x1 e (flat r n) = val_main_v76 (F := Ideal) x0 x1 e (ix2 r n) := by
  refine (val_main_v77_apply (F := Ideal) x0 x1 e (ix1 (flat r n))).trans (congrArg (val_main_v76 (F := Ideal) x0 x1 e) ?_)
  refine (ValueIdx.eq_ix2 _).trans (congrArg₂ ix2 (Fin.ext ?_) (Fin.ext ?_))
  · show (r.val * 16384 + n.val) / 16384 = r.val
    have := n.isLt
    omega
  · show (r.val * 16384 + n.val) % 16384 = n.val
    have := n.isLt
    omega

theorem losses_flat (r : Fin 2048) (n : Fin 16384) : losses x0 x1 e (flat r n) = -val_main_v78 (F := Ideal) x0 x1 e (ix2 r n) := by
  refine (val_main_v80_apply (F := Ideal) x0 x1 e (ix1 (flat r n))).trans (congrArg Neg.neg ?_)
  refine (val_main_v79_apply (F := Ideal) x0 x1 e (ix1 (flat r n))).trans (congrArg (val_main_v78 (F := Ideal) x0 x1 e) ?_)
  refine (ValueIdx.eq_ix2 _).trans (congrArg₂ ix2 (Fin.ext ?_) (Fin.ext ?_))
  · show (r.val * 16384 + n.val) / 16384 = r.val
    have := n.isLt
    omega
  · show (r.val * 16384 + n.val) % 16384 = n.val
    have := n.isLt
    omega

end Flat

/-- The two searched arrays, from the kernel's arguments. -/
abbrev gainsOf : Fin 33554432 → EReal := gains (arg0 m c) (arg1 m c) (arg2 m c)
abbrev lossesOf : Fin 33554432 → EReal := losses (arg0 m c) (arg1 m c) (arg2 m c)

variable (he : Named (arg2 m c))
include he

theorem downAt_gains (r : Fin 2048) (n : Fin 16384) : downAt m c r n = gainsOf m c (flat r n) :=
  (down_agree m c he r n).trans (gains_flat _ _ _ r n).symm

theorem upAt_losses (r : Fin 2048) (n : Fin 16384) : -upAt m c r n = lossesOf m c (flat r n) :=
  (congrArg Neg.neg (up_agree m c he r n)).trans (losses_flat _ _ _ r n).symm

theorem downs_gains (r : Fin 2048) (n : Fin 16384) : downs m c (ix2 r n) = gainsOf m c (flat r n) :=
  (down_final m c r n).trans (downAt_gains m c he r n)

theorem ups_losses (r : Fin 2048) (n : Fin 16384) : -ups m c (ix2 r n) = lossesOf m c (flat r n) :=
  (congrArg (fun v : EReal => -v) (up_final m c r n)).trans (upAt_losses m c he r n)

theorem tallest_greatest (w : Fin 64) (r : Fin 2048) :
    Greatest (fun l => gainsOf m c (flat r (inside w l))) (tallest m c (ix2 w r)) := by
  have h : (fun l => downAt m c r (inside w l)) = fun l => gainsOf m c (flat r (inside w l)) :=
    funext fun l => downAt_gains m c he r (inside w l)
  exact (congrArg (fun f => Greatest f (tallest m c (ix2 w r))) h).mp (tops_final m c w r)

omit he in
theorem lowest_least (w : Fin 64) (r : Fin 2048) :
    Least (fun l => ups m c (ix2 r (inside w l))) (lowest m c (ix2 w r)) := by
  have h : (fun l => upAt m c r (inside w l)) = fun l => ups m c (ix2 r (inside w l)) :=
    funext fun l => (up_final m c r (inside w l)).symm
  exact (congrArg (fun f => Least f (lowest m c (ix2 w r))) h).mp (lows_final m c w r)

/-- The first result. -/
theorem values_agree (j : Fin 1024) :
    ends m c main_values_9 (ix1 j) = val_main_values (F := Ideal) (arg0 m c) (arg1 m c) (arg2 m c) (ix1 j) :=
  (congrFun (ends_values_9 m c) (ix1 j)).trans
    ((add_values (tallest m c) (downs m c) (gainsOf m c) (downs_gains m c he) (tallest_greatest m c he) j).trans
      (ref_values (arg0 m c) (arg1 m c) (arg2 m c) j).symm)

omit he in
theorem host_negated (y : Arr S1024 .f32) (i : S1024.Idx) :
    Host.negf (F := Ideal) (φ := .f32) y i = FloatOps.hostNegf (F := Ideal) (φ := .f32) (y i) := rfl

theorem tops_agree_rm (j : Fin 1024) :
    candTop (candRm (lowest m c) (ups m c)) (ix1 j) = val_main_values_19 (F := Ideal) (arg0 m c) (arg1 m c) (arg2 m c) (ix1 j) :=
  (rm_values (lowest m c) (ups m c) (lossesOf m c) (ups_losses m c he) (lowest_least m c) j).trans
    (ref_values_rm (arg0 m c) (arg1 m c) (arg2 m c) j).symm

/-- The third result. -/
theorem values_agree_rm (j : Fin 1024) :
    ends m c main_v95 (ix1 j) = val_main_v81 (F := Ideal) (arg0 m c) (arg1 m c) (arg2 m c) (ix1 j) := by
  refine (congrFun (ends_v95 m c) (ix1 j)).trans ((host_negated (candTop (candRm (lowest m c) (ups m c))) (ix1 j)).trans ?_)
  refine Eq.trans ?_ (val_main_v81_apply (F := Ideal) (arg0 m c) (arg1 m c) (arg2 m c) (ix1 j)).symm
  exact congrArg (FloatOps.hostNegf (F := Ideal) (φ := .f32)) (tops_agree_rm m c he j)

/-- A place past the last kept. -/
def past : Fin 33554432 := ⟨1024, by decide⟩

/-- The second result, where the value is not tied with the first left out. -/
theorem places_agree (j : Fin 1024) (b : Fin 2)
    (h : (Cert.On_untied.fn (F := Ideal) (arg0 m c) (arg1 m c) (arg2 m c)).2.1 (ix2 j b) = 1#1) :
    ends m c main_v61 (ix2 j b) = val_main_v86 (F := Ideal) (arg0 m c) (arg1 m c) (arg2 m c) (ix2 j b) := by
  rw [gaps_add] at h
  have hlt : gainsOf m c (descend (gainsOf m c) past) < gainsOf m c (descend (gainsOf m c) (far j)) :=
    gap (val_main_v77 (F := Ideal) (arg0 m c) (arg1 m c) (arg2 m c)) j b (far j) past rfl rfl h
  refine (congrFun (ends_v61 m c) (ix2 j b)).trans (Eq.trans ?_ (congrFun (ref_pairs (arg0 m c) (arg1 m c) (arg2 m c)) (ix2 j b)).symm)
  exact Cert.Words.pairs_congr _ _ j b
    (lt_trans (descend (gainsOf m c) (far j)).isLt (by decide))
    (add_places (tallest m c) (downs m c) (gainsOf m c) (downs_gains m c he) (tallest_greatest m c he) j past rfl hlt)
    (ref_places (arg0 m c) (arg1 m c) (arg2 m c) j)

/-- The fourth result, where the value is not tied with the first left out. -/
theorem places_agree_rm (j : Fin 1024) (b : Fin 2)
    (h : (Cert.On_untied.fn (F := Ideal) (arg0 m c) (arg1 m c) (arg2 m c)).2.2.2 (ix2 j b) = 1#1) :
    ends m c main_v94 (ix2 j b) = val_main_v91 (F := Ideal) (arg0 m c) (arg1 m c) (arg2 m c) (ix2 j b) := by
  rw [gaps_rm] at h
  have hlt : lossesOf m c (descend (lossesOf m c) past) < lossesOf m c (descend (lossesOf m c) (far j)) :=
    gap (val_main_v80 (F := Ideal) (arg0 m c) (arg1 m c) (arg2 m c)) j b (far j) past rfl rfl h
  refine (congrFun (ends_v94 m c) (ix2 j b)).trans (Eq.trans ?_ (congrFun (ref_pairs_rm (arg0 m c) (arg1 m c) (arg2 m c)) (ix2 j b)).symm)
  exact Cert.Words.pairs_congr _ _ j b
    (lt_trans (descend (lossesOf m c) (far j)).isLt (by decide))
    (rm_places (lowest m c) (ups m c) (lossesOf m c) (ups_losses m c he) (lowest_least m c) j past rfl hlt)
    (ref_places_rm (arg0 m c) (arg1 m c) (arg2 m c) j)

end Cert.KernelIdeal.Region

end
-- ==== Proof.Runs.lean ====
/- The two programs' runs, read at their results. -/
module

public import proofs.«01_k».proof.Proof.Outcome
public import proofs.«01_k».proof.Proof.Gen.ReferenceIdeal.Run

@[expose] public section

noncomputable section

namespace Cert.Runs

open Idealize.ShloMosaic hiding ix0 ix1 ix2
open Idealize.ShloMosaic.StableHlo Idealize.SL.Sem
open Cert.KernelIdeal.Lines (Arr)

section Kernel

open Cert.KernelIdeal Cert.KernelIdeal.Gen Cert.KernelIdeal.Region

variable (m : ∀ l : Loc nD τ sig, Buf (Elt Ideal) l) (ρ : Dev nD → PrngReg)

/-- The kernel's results are what its last lines leave, and its arguments end unchanged. -/
theorem kernel_run : θ_run (defs (F := Ideal)) (onTc (τ := τ) (main (F := Ideal))) ⟨m, fun _ => 0, ρ⟩ (fun r => ∀ c : Dev nD,
    r.2.mem ((c.tc : Thread nD τ).loc main_values_9) = ends m c main_values_9
    ∧ r.2.mem ((c.tc : Thread nD τ).loc main_v61) = ends m c main_v61
    ∧ r.2.mem ((c.tc : Thread nD τ).loc main_v95) = ends m c main_v95
    ∧ r.2.mem ((c.tc : Thread nD τ).loc main_v94) = ends m c main_v94
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h.1 c).2 main_values_9 (Pipeline.mem_restRefs_of main_values_9 (by decide) (by decide)),
      (h.1 c).2 main_v61 (Pipeline.mem_restRefs_of main_v61 (by decide) (by decide)),
      (h.1 c).2 main_v95 (Pipeline.mem_restRefs_of main_v95 (by decide) (by decide)),
      (h.1 c).2 main_v94 (Pipeline.mem_restRefs_of main_v94 (by decide) (by decide)),
      h.2 c⟩)
    (θ_run_and (run_main m ρ) (unchanged m ρ))

end Kernel

section Reference

open Cert.ReferenceIdeal Cert.ReferenceIdeal.Gen Cert.ReferenceIdeal.Read

variable (m : ∀ l : Loc nD τ sig, Buf (Elt Ideal) l) (ρ : Dev nD → PrngReg)
  (x0 x1 : Dev nD → Arr S16384x256 .f32) (e : Dev nD → Arr S2x262144 .i32)
  (h0 : ∀ c : Dev nD, m ((c.tc : Thread nD τ).loc main_arg0) = x0 c)
  (h1 : ∀ c : Dev nD, m ((c.tc : Thread nD τ).loc main_arg1) = x1 c)
  (h2 : ∀ c : Dev nD, m ((c.tc : Thread nD τ).loc main_arg2) = e c)

include h0 h1 h2

/-- The reference's results, by its arguments, which end unchanged. -/
theorem reference_run : θ_run (defs (F := Ideal)) (onTc (τ := τ) (main (F := Ideal))) ⟨m, fun _ => 0, ρ⟩ (fun r => ∀ c : Dev nD,
    r.2.mem ((c.tc : Thread nD τ).loc main_values) = val_main_values (F := Ideal) (x0 c) (x1 c) (e c)
    ∧ r.2.mem ((c.tc : Thread nD τ).loc main_v86) = val_main_v86 (F := Ideal) (x0 c) (x1 c) (e c)
    ∧ r.2.mem ((c.tc : Thread nD τ).loc main_v81) = val_main_v81 (F := Ideal) (x0 c) (x1 c) (e c)
    ∧ r.2.mem ((c.tc : Thread nD τ).loc main_v91) = val_main_v91 (F := Ideal) (x0 c) (x1 c) (e c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => by
    rw [← h0 c, ← h1 c, ← h2 c]
    exact ⟨(h c).1.trans (val_main_values_eq (launchContents m c)), (h c).2.1.trans (val_main_v86_eq (launchContents m c)),
      (h c).2.2.1.trans (val_main_v81_eq (launchContents m c)), (h c).2.2.2.1.trans (val_main_v91_eq (launchContents m c)),
      (h c).2.2.2.2⟩) (Cert.ReferenceIdeal.Value.run (F := Ideal) m ρ)

end Reference

end Cert.Runs

end
-- ==== Proof.lean ====
/- The claims: the frames of the kernel, of its idealization and of the reference, and that the idealization's four
   results are the reference's: the values everywhere, the places where the value is not tied with the first left out. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.On_untied
public import Idealize.ShloMosaic.Adequacy
public import Idealize.ShloMosaic.Init
public import proofs.«01_k».proof.Proof.Range
public import proofs.«01_k».proof.Proof.Runs

@[expose] public section

noncomputable section

namespace Cert.Proof

open Idealize.ShloMosaic Idealize.SL.Sem

/-- The reference runs, its arguments end unchanged and every counter ends at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => ⟨(h c).2.2.2.2.1, (h c).2.2.2.2.2.1, (h c).2.2.2.2.2.2⟩,
    Idealize.ShloMosaic.sem_eq_zero_of_no_sems (by decide) r.2⟩) (Cert.ReferenceIdeal.Value.run (F := Ideal) m ρ)

open Cert.KernelIdeal.Region in
/-- The value claim: what each result holds where it is compared is what the kernel leaves there. -/
theorem algebraic : Cert.algebraic_KernelIdeal_ReferenceIdeal_on_untied_pre_in_range := by
  intro m g m' g' hpre hargs
  have he : ∀ c : Dev Cert.KernelIdeal.nD, Cert.Sims.Named (arg2 m c) := fun c =>
    Cert.Sims.named_of_range (arg0 m c) (arg1 m c) (arg2 m c) (hpre c)
  refine ⟨fun c => ends m c Cert.KernelIdeal.main_values_9, fun c => ends m c Cert.KernelIdeal.main_v61,
    fun c => ends m c Cert.KernelIdeal.main_v95, fun c => ends m c Cert.KernelIdeal.main_v94, ?_, ?_⟩
  · exact (θ_run _ _ _).mono (fun r h c => ⟨fun i _ => congrFun (h c).1 i, fun i _ => congrFun (h c).2.1 i,
      fun i _ => congrFun (h c).2.2.1 i, fun i _ => congrFun (h c).2.2.2.1 i, (h c).2.2.2.2⟩) (Cert.Runs.kernel_run m g)
  · refine (θ_run _ _ _).mono (fun r h c => ⟨fun i _ => ?_, fun i hi => ?_, fun i _ => ?_, fun i hi => ?_, (h c).2.2.2.2⟩)
      (Cert.Runs.reference_run m' g' (fun c => arg0 m c) (fun c => arg1 m c) (fun c => arg2 m c)
        (fun c => (hargs c).1) (fun c => (hargs c).2.1) (fun c => (hargs c).2.2))
    · rw [ValueIdx.eq_ix1 i]
      exact (congrFun (h c).1 _).trans (values_agree m c (he c) (i 0)).symm
    · rw [ValueIdx.eq_ix2 i] at hi ⊢
      exact (congrFun (h c).2.1 _).trans (places_agree m c (he c) (i 0) (i 1) hi).symm
    · rw [ValueIdx.eq_ix1 i]
      exact (congrFun (h c).2.2.1 _).trans (values_agree_rm m c (he c) (i 0)).symm
    · rw [ValueIdx.eq_ix2 i] at hi ⊢
      exact (congrFun (h c).2.2.2.1 _).trans (places_agree_rm m c (he c) (i 0) (i 1) hi).symm

/-- Every claim. -/
theorem claim : Cert.Claim :=
  ⟨Cert.Kernel.Gen.facts, Cert.KernelIdeal.Gen.facts, Cert.ReferenceIdeal.Gen.facts, Cert.Pre_in_range.Gen.facts, Cert.On_untied.Gen.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
